-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_bf16_range [hPre_in_bf16_range : Cert.Pre_in_bf16_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_bf16_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_RefIdeal (m : (ℓ : Loc Cert.RefIdeal.nD Cert.RefIdeal.τ Cert.RefIdeal.sig) → Buf (Elt Ideal) ℓ) : Prop :=
  True

def Pre_RefIdeal_in_bf16_range [hPre_in_bf16_range : Cert.Pre_in_bf16_range.Facts] (m : (ℓ : Loc Cert.RefIdeal.nD Cert.RefIdeal.τ Cert.RefIdeal.sig) → Buf (Elt Ideal) ℓ) : Prop :=
  ∀ c : Dev Cert.RefIdeal.nD,
    (Cert.Pre_in_bf16_range.fn (F := Ideal) (m ((c.tc : Thread Cert.RefIdeal.nD Cert.RefIdeal.τ).loc Cert.RefIdeal.main_arg0)) (m ((c.tc : Thread Cert.RefIdeal.nD Cert.RefIdeal.τ).loc Cert.RefIdeal.main_arg1)) (m ((c.tc : Thread Cert.RefIdeal.nD Cert.RefIdeal.τ).loc Cert.RefIdeal.main_arg2)) (m ((c.tc : Thread Cert.RefIdeal.nD Cert.RefIdeal.τ).loc Cert.RefIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_bf16_range [hKernelIdeal : Cert.KernelIdeal.Facts] [hPre_in_bf16_range : Cert.Pre_in_bf16_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_bf16_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_RefIdeal [hRefIdeal : Cert.RefIdeal.Facts] : Prop :=
  ∀ (m : (ℓ : Loc Cert.RefIdeal.nD Cert.RefIdeal.τ Cert.RefIdeal.sig) → Buf (Elt Ideal) ℓ) (g : Dev Cert.RefIdeal.nD → PrngReg), Pre_RefIdeal m →
    θ_run (Cert.RefIdeal.defs (F := Ideal)) (onTc (τ := Cert.RefIdeal.τ) (Cert.RefIdeal.main (F := Ideal))) ⟨m, fun _ => 0, g⟩ (fun r => (∀ c : Dev Cert.RefIdeal.nD,
      r.2.mem ((c.tc : Thread Cert.RefIdeal.nD Cert.RefIdeal.τ).loc Cert.RefIdeal.main_arg0) = m ((c.tc : Thread Cert.RefIdeal.nD Cert.RefIdeal.τ).loc Cert.RefIdeal.main_arg0)
      ∧ r.2.mem ((c.tc : Thread Cert.RefIdeal.nD Cert.RefIdeal.τ).loc Cert.RefIdeal.main_arg1) = m ((c.tc : Thread Cert.RefIdeal.nD Cert.RefIdeal.τ).loc Cert.RefIdeal.main_arg1)
      ∧ r.2.mem ((c.tc : Thread Cert.RefIdeal.nD Cert.RefIdeal.τ).loc Cert.RefIdeal.main_arg2) = m ((c.tc : Thread Cert.RefIdeal.nD Cert.RefIdeal.τ).loc Cert.RefIdeal.main_arg2)
      ∧ r.2.mem ((c.tc : Thread Cert.RefIdeal.nD Cert.RefIdeal.τ).loc Cert.RefIdeal.main_arg3) = m ((c.tc : Thread Cert.RefIdeal.nD Cert.RefIdeal.τ).loc Cert.RefIdeal.main_arg3))
      ∧ r.2.sem = fun _ => 0)

def quiescent_RefIdeal_pre_in_bf16_range [hRefIdeal : Cert.RefIdeal.Facts] [hPre_in_bf16_range : Cert.Pre_in_bf16_range.Facts] : Prop :=
  ∀ (m : (ℓ : Loc Cert.RefIdeal.nD Cert.RefIdeal.τ Cert.RefIdeal.sig) → Buf (Elt Ideal) ℓ) (g : Dev Cert.RefIdeal.nD → PrngReg), Pre_RefIdeal_in_bf16_range m →
    θ_run (Cert.RefIdeal.defs (F := Ideal)) (onTc (τ := Cert.RefIdeal.τ) (Cert.RefIdeal.main (F := Ideal))) ⟨m, fun _ => 0, g⟩ (fun r => (∀ c : Dev Cert.RefIdeal.nD,
      r.2.mem ((c.tc : Thread Cert.RefIdeal.nD Cert.RefIdeal.τ).loc Cert.RefIdeal.main_arg0) = m ((c.tc : Thread Cert.RefIdeal.nD Cert.RefIdeal.τ).loc Cert.RefIdeal.main_arg0)
      ∧ r.2.mem ((c.tc : Thread Cert.RefIdeal.nD Cert.RefIdeal.τ).loc Cert.RefIdeal.main_arg1) = m ((c.tc : Thread Cert.RefIdeal.nD Cert.RefIdeal.τ).loc Cert.RefIdeal.main_arg1)
      ∧ r.2.mem ((c.tc : Thread Cert.RefIdeal.nD Cert.RefIdeal.τ).loc Cert.RefIdeal.main_arg2) = m ((c.tc : Thread Cert.RefIdeal.nD Cert.RefIdeal.τ).loc Cert.RefIdeal.main_arg2)
      ∧ r.2.mem ((c.tc : Thread Cert.RefIdeal.nD Cert.RefIdeal.τ).loc Cert.RefIdeal.main_arg3) = m ((c.tc : Thread Cert.RefIdeal.nD Cert.RefIdeal.τ).loc Cert.RefIdeal.main_arg3))
      ∧ r.2.sem = fun _ => 0)

def preserves_Kernel_KernelIdeal : Prop :=
  True

def algebraic_KernelIdeal_RefIdeal_pre_in_bf16_range [hKernelIdeal : Cert.KernelIdeal.Facts] [hRefIdeal : Cert.RefIdeal.Facts] [hPre_in_bf16_range : Cert.Pre_in_bf16_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.RefIdeal.nD Cert.RefIdeal.τ Cert.RefIdeal.sig) → Buf (Elt Ideal) ℓ) (g' : Dev Cert.RefIdeal.nD → PrngReg), Pre_KernelIdeal_in_bf16_range m →
    (∀ c : Dev Cert.KernelIdeal.nD,
      m' ((c.tc : Thread Cert.RefIdeal.nD Cert.RefIdeal.τ).loc Cert.RefIdeal.main_arg0) = m ((c.tc : Thread Cert.KernelIdeal.nD Cert.KernelIdeal.τ).loc Cert.KernelIdeal.main_arg0)
      ∧ m' ((c.tc : Thread Cert.RefIdeal.nD Cert.RefIdeal.τ).loc Cert.RefIdeal.main_arg1) = m ((c.tc : Thread Cert.KernelIdeal.nD Cert.KernelIdeal.τ).loc Cert.KernelIdeal.main_arg1)
      ∧ m' ((c.tc : Thread Cert.RefIdeal.nD Cert.RefIdeal.τ).loc Cert.RefIdeal.main_arg2) = m ((c.tc : Thread Cert.KernelIdeal.nD Cert.KernelIdeal.τ).loc Cert.KernelIdeal.main_arg2)
      ∧ m' ((c.tc : Thread Cert.RefIdeal.nD Cert.RefIdeal.τ).loc Cert.RefIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.RefIdeal.defs (F := Ideal)) (onTc (τ := Cert.RefIdeal.τ) (Cert.RefIdeal.main (F := Ideal))) ⟨m', fun _ => 0, g'⟩ (fun r => ∀ c : Dev Cert.RefIdeal.nD,
          r.2.mem ((c.tc : Thread Cert.RefIdeal.nD Cert.RefIdeal.τ).loc Cert.RefIdeal.main_v3_0) = v0 c
          ∧ r.2.mem ((c.tc : Thread Cert.RefIdeal.nD Cert.RefIdeal.τ).loc Cert.RefIdeal.main_v4) = v1 c
          ∧ r.2.mem ((c.tc : Thread Cert.RefIdeal.nD Cert.RefIdeal.τ).loc Cert.RefIdeal.main_v5) = v2 c
          ∧ r.2.mem ((c.tc : Thread Cert.RefIdeal.nD Cert.RefIdeal.τ).loc Cert.RefIdeal.main_arg0) = m' ((c.tc : Thread Cert.RefIdeal.nD Cert.RefIdeal.τ).loc Cert.RefIdeal.main_arg0)
          ∧ r.2.mem ((c.tc : Thread Cert.RefIdeal.nD Cert.RefIdeal.τ).loc Cert.RefIdeal.main_arg1) = m' ((c.tc : Thread Cert.RefIdeal.nD Cert.RefIdeal.τ).loc Cert.RefIdeal.main_arg1)
          ∧ r.2.mem ((c.tc : Thread Cert.RefIdeal.nD Cert.RefIdeal.τ).loc Cert.RefIdeal.main_arg2) = m' ((c.tc : Thread Cert.RefIdeal.nD Cert.RefIdeal.τ).loc Cert.RefIdeal.main_arg2)
          ∧ r.2.mem ((c.tc : Thread Cert.RefIdeal.nD Cert.RefIdeal.τ).loc Cert.RefIdeal.main_arg3) = m' ((c.tc : Thread Cert.RefIdeal.nD Cert.RefIdeal.τ).loc Cert.RefIdeal.main_arg3))

def Claim : Prop :=
  ∃ (hKernel : Cert.Kernel.Facts) (hKernelIdeal : Cert.KernelIdeal.Facts) (hRefIdeal : Cert.RefIdeal.Facts) (hPre_in_bf16_range : Cert.Pre_in_bf16_range.Facts),
    quiescent_Kernel (hKernel := hKernel)
    ∧ quiescent_KernelIdeal (hKernelIdeal := hKernelIdeal)
    ∧ quiescent_KernelIdeal_pre_in_bf16_range (hKernelIdeal := hKernelIdeal) (hPre_in_bf16_range := hPre_in_bf16_range)
    ∧ quiescent_RefIdeal (hRefIdeal := hRefIdeal)
    ∧ quiescent_RefIdeal_pre_in_bf16_range (hRefIdeal := hRefIdeal) (hPre_in_bf16_range := hPre_in_bf16_range)
    ∧ preserves_Kernel_KernelIdeal
    ∧ algebraic_KernelIdeal_RefIdeal_pre_in_bf16_range (hKernelIdeal := hKernelIdeal) (hRefIdeal := hRefIdeal) (hPre_in_bf16_range := hPre_in_bf16_range)
-- ==== Pre_in_bf16_range.lean ====
abbrev S3x3072x3712 : Shape := ⟨3, ![3, 3072, 3712]⟩
abbrev S_ : Shape := ⟨0, ![]⟩
abbrev S3x3072x1280 : Shape := ⟨3, ![3, 3072, 1280]⟩
abbrev S3712x1280 : Shape := ⟨2, ![3712, 1280]⟩

class Facts : Prop where
  bitsLt_bf16_f32 : FTy.bits .bf16 < FTy.bits .f32
  bcast_S_S3x3072x1280 : S_.BroadcastsInDim S3x3072x1280 (![] : Fin 0 → Fin S3x3072x1280.rank)

variable [Facts]

def fn {F : FTy → Type} [FloatOps F] (main_arg0 : FVec F S3x3072x3712 .fp8e4m3) (main_arg1 : FVec F S_ .f32) (main_arg2 : FVec F S3x3072x1280 .bf16) (main_arg3 : FVec F S3712x1280 .f32) : IVec S3x3072x1280 1 :=
  let main_v0 : FVec F S3x3072x1280 .f32 := (extf .f32 · bitsLt_bf16_f32) main_arg2
  let main_v1 : FVec F S3x3072x1280 .f32 := Host.absf main_v0
  let main_cst : FVec F S_ .f32 := constant S_ .f32 0x7F7F0000#32
  let main_v2 : FVec F S3x3072x1280 .f32 := broadcastInDim S3x3072x1280 ![] bcast_S_S3x3072x1280 main_cst
  let main_v3 : IVec S3x3072x1280 1 := cmpf .ole main_v1 main_v2
  let main_cst_0 : FVec F S_ .f32 := constant S_ .f32 0x7F800000#32
  let main_v4 : FVec F S3x3072x1280 .f32 := broadcastInDim S3x3072x1280 ![] bcast_S_S3x3072x1280 main_cst_0
  let main_v5 : IVec S3x3072x1280 1 := cmpf .oeq main_v1 main_v4
  let main_v6 : IVec S3x3072x1280 1 := ori main_v3 main_v5
  main_v6
-- ==== Kernel.lean ====
abbrev S3x3072x3712 : Shape := ⟨3, ![3, 3072, 3712]⟩
abbrev S_ : Shape := ⟨0, ![]⟩
abbrev S3x3072x1280 : Shape := ⟨3, ![3, 3072, 1280]⟩
abbrev S3712x1280 : Shape := ⟨2, ![3712, 1280]⟩
abbrev S9216x3712 : Shape := ⟨2, ![9216, 3712]⟩
abbrev S9216x1280 : Shape := ⟨2, ![9216, 1280]⟩
abbrev S1x1 : Shape := ⟨2, ![1, 1]⟩
abbrev S512x1280 : Shape := ⟨2, ![512, 1280]⟩
abbrev S16x1280 : Shape := ⟨2, ![16, 1280]⟩
abbrev S32x16x1280 : Shape := ⟨3, ![32, 16, 1280]⟩
abbrev S1x16x1280 : Shape := ⟨3, ![1, 16, 1280]⟩
abbrev S1 : Shape := ⟨1, ![1]⟩
abbrev S1x1x1 : Shape := ⟨3, ![1, 1, 1]⟩
abbrev S512x3712 : Shape := ⟨2, ![512, 3712]⟩

abbrev nBuf : Space → Nat
  | .hbm => 13
  | .vmem => 13
  | .smem => 3
  | _ => 0

abbrev bufTy : (tb : Table) → Fin (tcTables nBuf tb) → BufTy
  | .hbm, ⟨0, _⟩ => ⟨S3x3072x3712, .fp8e4m3⟩
  | .hbm, ⟨1, _⟩ => ⟨S_, .f32⟩
  | .hbm, ⟨2, _⟩ => ⟨S3x3072x1280, .bf16⟩
  | .hbm, ⟨3, _⟩ => ⟨S3712x1280, .f32⟩
  | .hbm, ⟨4, _⟩ => ⟨S9216x3712, .fp8e4m3⟩
  | .hbm, ⟨5, _⟩ => ⟨S9216x1280, .bf16⟩
  | .hbm, ⟨6, _⟩ => ⟨S1x1, .f32⟩
  | .hbm, ⟨7, _⟩ => ⟨S1x1, .f32⟩
  | .hbm, ⟨8, _⟩ => ⟨S1x1, .f32⟩
  | .hbm, ⟨9, _⟩ => ⟨S3712x1280, .f32⟩
  | .hbm, ⟨10, _⟩ => ⟨S9216x1280, .fp8e5m2⟩
  | .hbm, ⟨11, _⟩ => ⟨S3x3072x1280, .fp8e5m2⟩
  | .hbm, ⟨12, _⟩ => ⟨S_, .f32⟩
  | .local _ .vmem, ⟨0, _⟩ => ⟨S512x1280, .bf16⟩
  | .local _ .vmem, ⟨1, _⟩ => ⟨S512x1280, .bf16⟩
  | .local _ .vmem, ⟨2, _⟩ => ⟨S1x1, .f32⟩
  | .local _ .vmem, ⟨3, _⟩ => ⟨S1x1, .f32⟩
  | .local _ .vmem, ⟨4, _⟩ => ⟨S16x1280, .bf16⟩
  | .local _ .vmem, ⟨5, _⟩ => ⟨S512x3712, .fp8e4m3⟩
  | .local _ .vmem, ⟨6, _⟩ => ⟨S512x3712, .fp8e4m3⟩
  | .local _ .vmem, ⟨7, _⟩ => ⟨S512x1280, .bf16⟩
  | .local _ .vmem, ⟨8, _⟩ => ⟨S512x1280, .bf16⟩
  | .local _ .vmem, ⟨9, _⟩ => ⟨S3712x1280, .f32⟩
  | .local _ .vmem, ⟨10, _⟩ => ⟨S3712x1280, .f32⟩
  | .local _ .vmem, ⟨11, _⟩ => ⟨S512x1280, .fp8e5m2⟩
  | .local _ .vmem, ⟨12, _⟩ => ⟨S512x1280, .fp8e5m2⟩
  | .local _ .smem, ⟨0, _⟩ => ⟨S1x1, .f32⟩
  | .local _ .smem, ⟨1, _⟩ => ⟨S1x1, .f32⟩
  | .local _ .smem, ⟨2, _⟩ => ⟨S1x1, .f32⟩
  | _, _ => ⟨S3x3072x3712, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc1_stg3_0 : Ref sig .tc := ⟨.vmem, 5, rfl⟩
abbrev cc1_stg3_1 : Ref sig .tc := ⟨.vmem, 6, rfl⟩
abbrev cc1_stg4_0 : Ref sig .tc := ⟨.vmem, 7, rfl⟩
abbrev cc1_stg4_1 : Ref sig .tc := ⟨.vmem, 8, rfl⟩
abbrev cc1_stg5_0 : Ref sig .tc := ⟨.vmem, 9, rfl⟩
abbrev cc1_stg6_0 : Ref sig .tc := ⟨.vmem, 10, rfl⟩
abbrev cc1_stg7_0 : Ref sig .tc := ⟨.vmem, 11, rfl⟩
abbrev cc1_stg7_1 : Ref sig .tc := ⟨.vmem, 12, rfl⟩
abbrev cc1_stg0_0 : Ref sig .tc := ⟨.smem, 0, rfl⟩
abbrev cc1_stg1_0 : Ref sig .tc := ⟨.smem, 1, rfl⟩
abbrev cc1_stg2_0 : Ref sig .tc := ⟨.smem, 2, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem3_1 : DmaSem sig := 8
abbrev cc1_sem4_0 : DmaSem sig := 9
abbrev cc1_sem4_1 : DmaSem sig := 10
abbrev cc1_sem5_0 : DmaSem sig := 11
abbrev cc1_sem6_0 : DmaSem sig := 12
abbrev cc1_sem7_0 : DmaSem sig := 13
abbrev cc1_sem7_1 : DmaSem sig := 14

abbrev nD : Nat := 1
abbrev τ : Topo := Topo.v7x

variable {F : FTy → Type} [FloatOps F]

abbrev grid0 : Pipeline.Grid := ⟨1, ![18], ![false]⟩

def k0_cond2 (i : grid0.Coords) : BitVec 1 :=
  let arg0 : BitVec 32 := BitVec.ofNat 32 (i 0).val
  let c17_i32 : BitVec 32 := 17#32
  let v13 : BitVec 1 := Scalar.cmpi .eq arg0 c17_i32
  let v14 : BitVec 32 := Scalar.extui v13
  let c0_i32_6 : BitVec 32 := 0#32
  let v15 : BitVec 1 := Scalar.cmpi .ne v14 c0_i32_6
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![18], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .smem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .smem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .smem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x3712 .fp8e4m3 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x1280 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S3712x1280 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S3712x1280 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S512x1280 .fp8e5m2 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== RefIdeal.lean ====
abbrev S3x3072x3712 : Shape := ⟨3, ![3, 3072, 3712]⟩
abbrev S_ : Shape := ⟨0, ![]⟩
abbrev S3x3072x1280 : Shape := ⟨3, ![3, 3072, 1280]⟩
abbrev S3712x1280 : Shape := ⟨2, ![3712, 1280]⟩
abbrev S9216x3712 : Shape := ⟨2, ![9216, 3712]⟩
abbrev S1x1 : Shape := ⟨2, ![1, 1]⟩
abbrev S9216x1280 : Shape := ⟨2, ![9216, 1280]⟩
abbrev S1x9216x1280 : Shape := ⟨3, ![1, 9216, 1280]⟩
abbrev S1 : Shape := ⟨1, ![1]⟩
abbrev S1x1x1 : Shape := ⟨3, ![1, 1, 1]⟩
abbrev S1x254 : Shape := ⟨2, ![1, 254]⟩

abbrev nBuf : Space → Nat
  | .hbm => 12
  | .vmem => 7
  | .smem => 0
  | _ => 0

abbrev bufTy : (tb : Table) → Fin (tcTables nBuf tb) → BufTy
  | .hbm, ⟨0, _⟩ => ⟨S3x3072x3712, .fp8e4m3⟩
  | .hbm, ⟨1, _⟩ => ⟨S_, .f32⟩
  | .hbm, ⟨2, _⟩ => ⟨S3x3072x1280, .bf16⟩
  | .hbm, ⟨3, _⟩ => ⟨S3712x1280, .f32⟩
  | .hbm, ⟨4, _⟩ => ⟨S9216x3712, .fp8e4m3⟩
  | .hbm, ⟨5, _⟩ => ⟨S1x1, .f32⟩
  | .hbm, ⟨6, _⟩ => ⟨S9216x1280, .bf16⟩
  | .hbm, ⟨7, _⟩ => ⟨S3712x1280, .f32⟩
  | .hbm, ⟨8, _⟩ => ⟨S9216x1280, .fp8e5m2⟩
  | .hbm, ⟨9, _⟩ => ⟨S1x1, .f32⟩
  | .hbm, ⟨10, _⟩ => ⟨S3x3072x1280, .fp8e5m2⟩
  | .hbm, ⟨11, _⟩ => ⟨S_, .f32⟩
  | .local _ .vmem, ⟨0, _⟩ => ⟨S9216x3712, .fp8e4m3⟩
  | .local _ .vmem, ⟨1, _⟩ => ⟨S1x1, .f32⟩
  | .local _ .vmem, ⟨2, _⟩ => ⟨S9216x1280, .bf16⟩
  | .local _ .vmem, ⟨3, _⟩ => ⟨S3712x1280, .f32⟩
  | .local _ .vmem, ⟨4, _⟩ => ⟨S3712x1280, .f32⟩
  | .local _ .vmem, ⟨5, _⟩ => ⟨S9216x1280, .fp8e5m2⟩
  | .local _ .vmem, ⟨6, _⟩ => ⟨S1x1, .f32⟩
  | _, _ => ⟨S3x3072x3712, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S9216x3712 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9216x1280 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3712x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3712x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S9216x1280 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelRun.Region0.lean ====
/- Region 0 of @main (the largest-magnitude pass over dy) at any entry contents `V`: the triple of its body at each
   grid point, what the two scale outputs and the carried 16 x 1280 running maximum hold after each point, the proof
   data of its pipeline and the body obligation. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Pipeline.RegionsLoop
public import Idealize.ShloMosaic.Lib.Ring
public import Idealize.ShloMosaic.Lib.Tactic
public import Idealize.ShloMosaic.Lib.WordCmp

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 0 of @main: custom_call 0, `cc0_dy_amax` (pipeline 0), at the entry contents `V` — class R -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 18 = 0 :=
  (fun t => by
    have ht : t.val < 18 := Nat.lt_of_lt_of_eq t.isLt N_0
    have e0 : (grid0.coords t 0).val = t.val / 1 % 18 := Pipeline.Grid.coords_val t 0 (by decide) rfl
    simp only [cond0_0, e0]
    word_cmp
   : ∀ t : Fin grid0.N, cond0_0 (grid0.coords t) ↔ t.val % 18 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 18 = 17 :=
  (fun t => by
    have ht : t.val < 18 := Nat.lt_of_lt_of_eq t.isLt N_0
    have e0 : (grid0.coords t 0).val = t.val / 1 % 18 := Pipeline.Grid.coords_val t 0 (by decide) rfl
    simp only [cond0_1, k0_cond2, e0]
    word_cmp
   : ∀ t : Fin grid0.N, cond0_1 (grid0.coords t) ↔ t.val % 18 = 17)

/-! ## Where the windows are idle (the printed configuration's table `Cfg.idle`) -/

/-- Window 0 is never idle (an input). -/
theorem liveAt0_0 : ∀ t : Fin cfg0.N, cfg0.idle 0 (grid0.coords t) = false := fun _ => rfl
/-- At the points of case A the printed configuration (`Cfg.idle`) calls output 1 idle: the case stores nothing into it. -/
theorem idleAt0_1_A : ∀ t : Fin cfg0.N, cond0_0 (grid0.coords t) → ¬cond0_1 (grid0.coords t) → cfg0.idle 1 (grid0.coords t) = true := by decide +kernel
/-- At the points of case A the pipeline does not write output 1's block back. -/
theorem noFlush0_1_A : ∀ t : Fin cfg0.N, cond0_0 (grid0.coords t) → ¬cond0_1 (grid0.coords t) → (cfg0.win 1).flush t = false := by decide +kernel
/-- At the points of case B the printed configuration (`Cfg.idle`) calls output 1 idle: the case stores nothing into it. -/
theorem idleAt0_1_B : ∀ t : Fin cfg0.N, ¬cond0_0 (grid0.coords t) → ¬cond0_1 (grid0.coords t) → cfg0.idle 1 (grid0.coords t) = true := by decide +kernel
/-- At the points of case B the pipeline does not write output 1's block back. -/
theorem noFlush0_1_B : ∀ t : Fin cfg0.N, ¬cond0_0 (grid0.coords t) → ¬cond0_1 (grid0.coords t) → (cfg0.win 1).flush t = false := by decide +kernel
/-- At the points of case C the printed configuration (`Cfg.idle`) calls output 1 live: the case stores into it. -/
theorem liveAt0_1_C : ∀ t : Fin cfg0.N, ¬cond0_0 (grid0.coords t) → cond0_1 (grid0.coords t) → cfg0.idle 1 (grid0.coords t) = false := by decide +kernel
/-- At the points of case A the printed configuration (`Cfg.idle`) calls output 2 idle: the case stores nothing into it. -/
theorem idleAt0_2_A : ∀ t : Fin cfg0.N, cond0_0 (grid0.coords t) → ¬cond0_1 (grid0.coords t) → cfg0.idle 2 (grid0.coords t) = true := by decide +kernel
/-- At the points of case A the pipeline does not write output 2's block back. -/
theorem noFlush0_2_A : ∀ t : Fin cfg0.N, cond0_0 (grid0.coords t) → ¬cond0_1 (grid0.coords t) → (cfg0.win 2).flush t = false := by decide +kernel
/-- At the points of case B the printed configuration (`Cfg.idle`) calls output 2 idle: the case stores nothing into it. -/
theorem idleAt0_2_B : ∀ t : Fin cfg0.N, ¬cond0_0 (grid0.coords t) → ¬cond0_1 (grid0.coords t) → cfg0.idle 2 (grid0.coords t) = true := by decide +kernel
/-- At the points of case B the pipeline does not write output 2's block back. -/
theorem noFlush0_2_B : ∀ t : Fin cfg0.N, ¬cond0_0 (grid0.coords t) → ¬cond0_1 (grid0.coords t) → (cfg0.win 2).flush t = false := by decide +kernel
/-- At the points of case C the printed configuration (`Cfg.idle`) calls output 2 live: the case stores into it. -/
theorem liveAt0_2_C : ∀ t : Fin cfg0.N, ¬cond0_0 (grid0.coords t) → cond0_1 (grid0.coords t) → cfg0.idle 2 (grid0.coords t) = false := by decide +kernel

/-! ## The kernel body on any staging memrefs: a subtype the run finds -/

/-- One staging buffer of output window 1, through which its contents are stated (`View.read_writes_of_cover`: the
    choice does not matter). -/
abbrev VO0_1 : View sig .tc .vmem S1x1 .f32 := (Memref.whole cc0_stg1_0 : Memref sig .tc .vmem S1x1 .f32).view
/-- One staging buffer of output window 2, through which its contents are stated (`View.read_writes_of_cover`: the
    choice does not matter). -/
abbrev VO0_2 : View sig .tc .vmem S1x1 .f32 := (Memref.whole cc0_stg2_0 : Memref sig .tc .vmem S1x1 .f32).view
/-- Each window's current staging memref at point `t`, spelled as the pipeline passes it (`bodyAt0`), and its wholeness. -/
abbrev ms0_0 (t : Fin cfg0.N) : Memref sig .tc .vmem S512x1280 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
/-- The scratch operands: whole scoped buffers of the kernel's own, passed beside the windows. -/
abbrev scM0_0 : Memref sig .tc .vmem S16x1280 .bf16 := Memref.whole cc0_scratch0
/-- The scratch `arg4` the kernel carries between points, as a view: what it holds is stated through it. -/
abbrev VS0_0 : View sig .tc .vmem S16x1280 .bf16 := scM0_0.view

/-- The scoped buffers of the other region, which region 0 only hands on: each whole, at some contents. -/
def others0 (c : Dev nD) : sProp 𝕄 :=
  iprop((∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f))

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ others0 c) ∗ (∃ r, prngReg c r)) := by
  unfold Pipeline.ΦA others0; rw [scopedRest0_eq]; simp only [scM0_0, owns_whole]; try rfl

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the outputs it leaves idle (1, 2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S512x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : cond0_0 i) (hc1 : ¬cond0_1 i)
    (x0 : Vec F S512x1280 .bf16) :
    Σ' (L1 : List (View.Piece (Elt F) S1x1 .f32)), Σ' (L2 : List (View.Piece (Elt F) S1x1 .f32)), { LS0 : List (View.Piece (Elt F) S16x1280 .bf16) //
      ∀ (xi1 : Vec F S1x1 .f32) (xi2 : Vec F S1x1 .f32) (E : Set ℕ) (K : PUnit → sProp 𝕄),
        iprop(owns (c : Thread nD τ) arg1 fullShare x0 ∗ owns (c : Thread nD τ) arg2 fullShare xi1 ∗ owns (c : Thread nD τ) arg3 fullShare xi2 ∗ (∃ d, owns (c : Thread nD τ) arg4 fullShare d)
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0_dy_amax i arg1 harg1 arg2 harg2 arg3 harg3 arg4 harg4) K } := by
  refine ⟨[], [], ?_, fun xi1 xi2 E K => ?run⟩
  case run =>
    simp only [cc0_dy_amax_eq_skeleton]; unfold cc0_dy_amax_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 16: 16 of 18), WITH the
    proof that on whole staging memrefs — the inputs' at their contents, the outputs it leaves idle (1, 2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S512x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : ¬cond0_0 i) (hc1 : ¬cond0_1 i)
    (x0 : Vec F S512x1280 .bf16) (xs0 : Vec F S16x1280 .bf16) :
    Σ' (L1 : List (View.Piece (Elt F) S1x1 .f32)), Σ' (L2 : List (View.Piece (Elt F) S1x1 .f32)), { LS0 : List (View.Piece (Elt F) S16x1280 .bf16) //
      ∀ (xi1 : Vec F S1x1 .f32) (xi2 : Vec F S1x1 .f32) (E : Set ℕ) (K : PUnit → sProp 𝕄),
        iprop(owns (c : Thread nD τ) arg1 fullShare x0 ∗ owns (c : Thread nD τ) arg2 fullShare xi1 ∗ owns (c : Thread nD τ) arg3 fullShare xi2 ∗ owns (c : Thread nD τ) arg4 fullShare xs0
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0_dy_amax i arg1 harg1 arg2 harg2 arg3 harg3 arg4 harg4) K } := by
  refine ⟨[], [], ?_, fun xi1 xi2 E K => ?run⟩
  case run =>
    simp only [cc0_dy_amax_eq_skeleton]; unfold cc0_dy_amax_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

-- (the run's proof term is large: the definition's epilogue — `abstractNestedProofs` — walks it past the default budget)
set_option maxHeartbeats 1000000 in
/-- What the body's stores leave in each output's staging memref, as pieces (last first) IN CASE C (`scf.if` 0 not taken, `scf.if` 1 taken: points 17), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S512x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : ¬cond0_0 i) (hc1 : cond0_1 i)
    (x0 : Vec F S512x1280 .bf16) (xs0 : Vec F S16x1280 .bf16) :
    Σ' (L1 : List (View.Piece (Elt F) S1x1 .f32)), Σ' (L2 : List (View.Piece (Elt F) S1x1 .f32)), { LS0 : List (View.Piece (Elt F) S16x1280 .bf16) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ owns (c : Thread nD τ) arg4 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0_dy_amax i arg1 harg1 arg2 harg2 arg3 harg3 arg4 harg4) K } := by
  refine ⟨?_, ?_, ?_, fun E K => ?run⟩
  case run =>
    simp only [cc0_dy_amax_eq_skeleton]; unfold cc0_dy_amax_skel
    simp only [k0_part1_eq_skeleton, k0_part2_eq_skeleton]
    unfold owns
    iintro ⟨⟨%f0, %hf0, H0⟩, ⟨%d1, %f1, -, H1⟩, ⟨%d2, %f2, -, H2⟩, ⟨%fs0, %hfs0, HS0⟩, Hk⟩
    obtain rfl := harg1.eq_unread hf0; obtain rfl := harg4.eq_unread hfs0
    sl_exec (disch := first | sl_exact hc0 | sl_exact hc1)
    sl_step
    iapply Hk
    isplitl [H0]
    · iexists _; isplitr; · ipureintro; exact harg1.read_unread _
      iexact H0
    isplitl [H1]; · iexists _; iexact H1
    isplitl [H2]; · iexists _; iexact H2
    iexists _; iexact HS0

/-- Case A stores nothing into output 1 (the window is idle at its points and not written back there):
    no pieces — a placeholder (junk read back) that nothing consults, since at these points the window is neither
    written back nor read at the next point (Lib/Pipeline.lean "Idle points"). -/
def out0_A_1 (c : Dev nD) (i : grid0.Coords) (arg1 : Memref sig .tc .vmem S512x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : cond0_0 i) (hc1 : ¬cond0_1 i)
    (x0 : Vec F S512x1280 .bf16) : Vec F S1x1 .f32 :=
  VO0_1.read (Elt F) (VO0_1.writes (Elt F) VO0_1.junk (kernelRun0_A c i arg1 harg1 arg2 harg2 arg3 harg3 arg4 harg4 hc0 hc1 x0).1)

/-- Case A stores nothing into output 2 (the window is idle at its points and not written back there):
    no pieces — a placeholder (junk read back) that nothing consults, since at these points the window is neither
    written back nor read at the next point (Lib/Pipeline.lean "Idle points"). -/
def out0_A_2 (c : Dev nD) (i : grid0.Coords) (arg1 : Memref sig .tc .vmem S512x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : cond0_0 i) (hc1 : ¬cond0_1 i)
    (x0 : Vec F S512x1280 .bf16) : Vec F S1x1 .f32 :=
  VO0_2.read (Elt F) (VO0_2.writes (Elt F) VO0_2.junk (kernelRun0_A c i arg1 harg1 arg2 harg2 arg3 harg3 arg4 harg4 hc0 hc1 x0).2.1)

/-- Case A's pieces for scratch `arg4`, which the kernel carries between points, cover it: 2 pieces of `S16x1280` tiling it (Lib/Ring.lean `Piece.tiledL`). -/
theorem scover0_A_0 (c : Dev nD) (i : grid0.Coords) (arg1 : Memref sig .tc .vmem S512x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : cond0_0 i) (hc1 : ¬cond0_1 i)
    (x0 : Vec F S512x1280 .bf16) (y : S16x1280.Idx) :
    ∃ pc ∈ (kernelRun0_A c i arg1 harg1 arg2 harg2 arg3 harg3 arg4 harg4 hc0 hc1 x0).2.2.1, y ∈ pc.1.set :=
  View.cover_of_tiledL (kernelRun0_A c i arg1 harg1 arg2 harg2 arg3 harg3 arg4 harg4 hc0 hc1 x0).2.2.1 S16x1280.size (by sl_kernel_rfl) y

/-- What case A leaves in scratch `arg4`: its pieces read back over junk. -/
def sout0_A_0 (c : Dev nD) (i : grid0.Coords) (arg1 : Memref sig .tc .vmem S512x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : cond0_0 i) (hc1 : ¬cond0_1 i)
    (x0 : Vec F S512x1280 .bf16) : Vec F S16x1280 .bf16 :=
  VS0_0.read (Elt F) (VS0_0.writes (Elt F) VS0_0.junk (kernelRun0_A c i arg1 harg1 arg2 harg2 arg3 harg3 arg4 harg4 hc0 hc1 x0).2.2.1)

/-- Case B stores nothing into output 1 (the window is idle at its points and not written back there):
    no pieces — a placeholder (junk read back) that nothing consults, since at these points the window is neither
    written back nor read at the next point (Lib/Pipeline.lean "Idle points"). -/
def out0_B_1 (c : Dev nD) (i : grid0.Coords) (arg1 : Memref sig .tc .vmem S512x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : ¬cond0_0 i) (hc1 : ¬cond0_1 i)
    (x0 : Vec F S512x1280 .bf16) (xs0 : Vec F S16x1280 .bf16) : Vec F S1x1 .f32 :=
  VO0_1.read (Elt F) (VO0_1.writes (Elt F) VO0_1.junk (kernelRun0_B c i arg1 harg1 arg2 harg2 arg3 harg3 arg4 harg4 hc0 hc1 x0 xs0).1)

/-- Case B stores nothing into output 2 (the window is idle at its points and not written back there):
    no pieces — a placeholder (junk read back) that nothing consults, since at these points the window is neither
    written back nor read at the next point (Lib/Pipeline.lean "Idle points"). -/
def out0_B_2 (c : Dev nD) (i : grid0.Coords) (arg1 : Memref sig .tc .vmem S512x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : ¬cond0_0 i) (hc1 : ¬cond0_1 i)
    (x0 : Vec F S512x1280 .bf16) (xs0 : Vec F S16x1280 .bf16) : Vec F S1x1 .f32 :=
  VO0_2.read (Elt F) (VO0_2.writes (Elt F) VO0_2.junk (kernelRun0_B c i arg1 harg1 arg2 harg2 arg3 harg3 arg4 harg4 hc0 hc1 x0 xs0).2.1)

/-- Case B's pieces for scratch `arg4`, which the kernel carries between points, cover it: 1 piece of `S16x1280` tiling it (Lib/Ring.lean `Piece.tiledL`). -/
theorem scover0_B_0 (c : Dev nD) (i : grid0.Coords) (arg1 : Memref sig .tc .vmem S512x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : ¬cond0_0 i) (hc1 : ¬cond0_1 i)
    (x0 : Vec F S512x1280 .bf16) (xs0 : Vec F S16x1280 .bf16) (y : S16x1280.Idx) :
    ∃ pc ∈ (kernelRun0_B c i arg1 harg1 arg2 harg2 arg3 harg3 arg4 harg4 hc0 hc1 x0 xs0).2.2.1, y ∈ pc.1.set :=
  View.cover_of_tiledL (kernelRun0_B c i arg1 harg1 arg2 harg2 arg3 harg3 arg4 harg4 hc0 hc1 x0 xs0).2.2.1 S16x1280.size (by sl_kernel_rfl) y

/-- What case B leaves in scratch `arg4`: its pieces read back over junk. -/
def sout0_B_0 (c : Dev nD) (i : grid0.Coords) (arg1 : Memref sig .tc .vmem S512x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : ¬cond0_0 i) (hc1 : ¬cond0_1 i)
    (x0 : Vec F S512x1280 .bf16) (xs0 : Vec F S16x1280 .bf16) : Vec F S16x1280 .bf16 :=
  VS0_0.read (Elt F) (VS0_0.writes (Elt F) VS0_0.junk (kernelRun0_B c i arg1 harg1 arg2 harg2 arg3 harg3 arg4 harg4 hc0 hc1 x0 xs0).2.2.1)

/-- Case C's pieces for output 1 tile its block (1 store of `S1x1`, checked by the kernel's evaluation: Lib/Ring.lean `Piece.tiledL`, linear in the pieces, through a loop's `@[irreducible]` trip theorem too), so they cover it. -/
theorem cover0_C_1 (c : Dev nD) (i : grid0.Coords) (arg1 : Memref sig .tc .vmem S512x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : ¬cond0_0 i) (hc1 : cond0_1 i)
    (x0 : Vec F S512x1280 .bf16) (xs0 : Vec F S16x1280 .bf16) (y : S1x1.Idx) :
    ∃ pc ∈ (kernelRun0_C c i arg1 harg1 arg2 harg2 arg3 harg3 arg4 harg4 hc0 hc1 x0 xs0).1, y ∈ pc.1.set :=
  View.cover_of_tiledL (kernelRun0_C c i arg1 harg1 arg2 harg2 arg3 harg3 arg4 harg4 hc0 hc1 x0 xs0).1 S1x1.size (by sl_kernel_rfl) y

/-- What case C leaves in output 1's staging buffer: its pieces read back over junk. -/
def out0_C_1 (c : Dev nD) (i : grid0.Coords) (arg1 : Memref sig .tc .vmem S512x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : ¬cond0_0 i) (hc1 : cond0_1 i)
    (x0 : Vec F S512x1280 .bf16) (xs0 : Vec F S16x1280 .bf16) : Vec F S1x1 .f32 :=
  VO0_1.read (Elt F) (VO0_1.writes (Elt F) VO0_1.junk (kernelRun0_C c i arg1 harg1 arg2 harg2 arg3 harg3 arg4 harg4 hc0 hc1 x0 xs0).1)

/-- Case C's pieces for output 2 tile its block (1 store of `S1x1`, checked by the kernel's evaluation: Lib/Ring.lean `Piece.tiledL`, linear in the pieces, through a loop's `@[irreducible]` trip theorem too), so they cover it. -/
theorem cover0_C_2 (c : Dev nD) (i : grid0.Coords) (arg1 : Memref sig .tc .vmem S512x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : ¬cond0_0 i) (hc1 : cond0_1 i)
    (x0 : Vec F S512x1280 .bf16) (xs0 : Vec F S16x1280 .bf16) (y : S1x1.Idx) :
    ∃ pc ∈ (kernelRun0_C c i arg1 harg1 arg2 harg2 arg3 harg3 arg4 harg4 hc0 hc1 x0 xs0).2.1, y ∈ pc.1.set :=
  View.cover_of_tiledL (kernelRun0_C c i arg1 harg1 arg2 harg2 arg3 harg3 arg4 harg4 hc0 hc1 x0 xs0).2.1 S1x1.size (by sl_kernel_rfl) y

/-- What case C leaves in output 2's staging buffer: its pieces read back over junk. -/
def out0_C_2 (c : Dev nD) (i : grid0.Coords) (arg1 : Memref sig .tc .vmem S512x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : ¬cond0_0 i) (hc1 : cond0_1 i)
    (x0 : Vec F S512x1280 .bf16) (xs0 : Vec F S16x1280 .bf16) : Vec F S1x1 .f32 :=
  VO0_2.read (Elt F) (VO0_2.writes (Elt F) VO0_2.junk (kernelRun0_C c i arg1 harg1 arg2 harg2 arg3 harg3 arg4 harg4 hc0 hc1 x0 xs0).2.1)

/-- Case C's pieces for scratch `arg4`, which the kernel carries between points, cover it: 1 piece of `S16x1280` tiling it (Lib/Ring.lean `Piece.tiledL`). -/
theorem scover0_C_0 (c : Dev nD) (i : grid0.Coords) (arg1 : Memref sig .tc .vmem S512x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : ¬cond0_0 i) (hc1 : cond0_1 i)
    (x0 : Vec F S512x1280 .bf16) (xs0 : Vec F S16x1280 .bf16) (y : S16x1280.Idx) :
    ∃ pc ∈ (kernelRun0_C c i arg1 harg1 arg2 harg2 arg3 harg3 arg4 harg4 hc0 hc1 x0 xs0).2.2.1, y ∈ pc.1.set :=
  View.cover_of_tiledL (kernelRun0_C c i arg1 harg1 arg2 harg2 arg3 harg3 arg4 harg4 hc0 hc1 x0 xs0).2.2.1 S16x1280.size (by sl_kernel_rfl) y

/-- What case C leaves in scratch `arg4`: its pieces read back over junk. -/
def sout0_C_0 (c : Dev nD) (i : grid0.Coords) (arg1 : Memref sig .tc .vmem S512x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : ¬cond0_0 i) (hc1 : cond0_1 i)
    (x0 : Vec F S512x1280 .bf16) (xs0 : Vec F S16x1280 .bf16) : Vec F S16x1280 .bf16 :=
  VS0_0.read (Elt F) (VS0_0.writes (Elt F) VS0_0.junk (kernelRun0_C c i arg1 harg1 arg2 harg2 arg3 harg3 arg4 harg4 hc0 hc1 x0 xs0).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x1 .f32 × Vec F S1x1 .f32 × Vec F S16x1280 .bf16
  | 0, hn => (out0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 18 = 0 then
      if h1 : (n + 1) % 18 = 17 then
        False.elim (by have hN : n + 1 < 18 := lt_of_lt_of_eq hn (show cfg0.N = 18 from N_0); omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩), out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩))
    else
      if h1 : (n + 1) % 18 = 17 then
        (out0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2, out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2, out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2)

/-- `outsAt0` at a point of case A: that case's contents. -/
theorem outsAt0_A (c : Dev nD) (t : Fin cfg0.N) (h0 : t.val % 18 = 0) (h1 : ¬t.val % 18 = 17) :
    outsAt0 V c t.val t.isLt = (out0_A_1 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t), out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 18 = 0) (h1 : ¬t.val % 18 = 17) :
    outsAt0 V c t.val t.isLt = (out0_B_1 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2, out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 18 = 0) (h1 : t.val % 18 = 17) :
    outsAt0 V c t.val t.isLt = (out0_C_1 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2, out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ others0 c) ∗ (∃ r, prngReg c r))

/-- Before the first point the invariant is the entry invariant. -/
theorem PhiS0_zero (c : Dev nD) (n : ℕ) (h : n ≤ cfg0.N) (hz : n = 0) : PhiS0 V c n h = Pipeline.ΦA spec0 c := by
  subst hz; rfl

/-- After point `n` (before point `n + 1`): the carried scratch at that point's contents. -/
theorem PhiS0_succ (c : Dev nD) (n : ℕ) (hn : n < cfg0.N) :
    PhiS0 V c (n + 1) hn = iprop(iprop(owns (c : Thread nD τ) scM0_0 fullShare ((outsAt0 V c n hn).2.2) ∗ others0 c) ∗ (∃ r, prngReg c r)) := rfl

/-- Before a point that is not the first: the carried scratch at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2) ∗ others0 c) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS0`: the class's `ΦA` before the first point, then the scoped rest with the carried scratch at `outsAt0`'s component);
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2.1
  Φ t := PhiS0 V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS0_castSucc (c : Dev nD) (t : Fin cfg0.N) :
    (dat0 V c).Φ t.castSucc = PhiS0 V c t.val (Nat.le_of_lt t.isLt) := by
  dsimp only [dat0]; exact Pipeline.Dat.Φ_castSucc (PhiS0 V c) t

/-- What the body leaves, window by window (the proof data's `match` reduced by `dsimp`). -/
theorem after0_0 (c : Dev nD) (t : Fin cfg0.N) : (dat0 V c).after 0 t = iblk0 V c 0 t := by dsimp only [dat0]
/-- What the body leaves in output 1. -/
theorem after0_1 (c : Dev nD) (t : Fin cfg0.N) : (dat0 V c).after 1 t = (outsAt0 V c t.val t.isLt).1 := by dsimp only [dat0]
/-- What the body leaves in output 2. -/
theorem after0_2 (c : Dev nD) (t : Fin cfg0.N) : (dat0 V c).after 2 t = (outsAt0 V c t.val t.isLt).2.1 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks (`before0_W`); the closed forms say which case the point is in (`by_cases`), an output the case reads before covering holds what the point before left (`before0_W_κ`); so the
    run applies; the invariant hands the body the carried scratch at what the point before left (`PhiS0_pos`; at anything at the first point, `PhiS0_zero`), the other scratch buffers and the generator register at some state, and takes the carried scratch back at this point's contents (`PhiS0_succ`, by `scoverK_κ_N`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 18 := lt_of_lt_of_eq t.isLt (show cfg0.N = 18 from N_0)
  by_cases h0 : t.val % 18 = 0
  · by_cases h1 : t.val % 18 = 17
    · exfalso; omega
    · rw [show (dat0 V c).leavesExact 0 t = owns (c : Thread nD τ) (ms0_0 t) fullShare ((dat0 V c).after 0 t) from by
      unfold Dat.leavesExact; rw [liveAt0_0 t], after0_0]
      rw [Dat.leavesExact_idle (dat0 V c) 1 t (idleAt0_1_A t ((hcond0_0 t).mpr h0) (fun h => h1 ((hcond0_1 t).mp h))) (noFlush0_1_A t ((hcond0_0 t).mpr h0) (fun h => h1 ((hcond0_1 t).mp h)))]
      rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      by_cases hz : t.val = 0
      · rw [PhiS0_castSucc V c t, PhiS0_zero V c _ _ hz, PhiA0_eq]
        rw [outsAt0_A V c t h0 h1]
        unfold sout0_A_0; (try dsimp only)
        iintro ⟨⟨⟨HS0, Hoth⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t)).2.2.2 _ _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0 Hoth]
          · isplitl [HS0]; swap; · iexact Hoth
            unfold owns; iexists _; isplitr
            swap; · iexact HS0
            ipureintro; exact View.read_writes_of_cover _ _ _ _ _ (scover0_A_0 c _ _ _ _ _ _ _ _ _ _ _ _)
          iexact Hg
        isplitl [Ho]; · iexact Ho
        isplitl [H0]; · iexact H0
        isplitl [H1]; · iexists _; iexact H1
        iexists _; iexact H2
      · exfalso; have hN : t.val < 18 := lt_of_lt_of_eq t.isLt (show cfg0.N = 18 from N_0); omega
  · by_cases h1 : t.val % 18 = 17
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1_C t (fun h => h0 ((hcond0_0 t).mp h)) ((hcond0_1 t).mpr h1)], after0_1]
      rw [show (dat0 V c).leavesExact 2 t = owns (c : Thread nD τ) (ms0_2 t) fullShare ((dat0 V c).after 2 t) from by
      unfold Dat.leavesExact; rw [liveAt0_2_C t (fun h => h0 ((hcond0_0 t).mp h)) ((hcond0_1 t).mpr h1)], after0_2]
      by_cases hz : t.val = 0
      · exfalso; have hN : t.val < 18 := lt_of_lt_of_eq t.isLt (show cfg0.N = 18 from N_0); omega
      · rw [PhiS0_castSucc V c t, PhiS0_pos V c _ _ hz]
        rw [outsAt0_C V c t h0 h1]
        unfold out0_C_1 out0_C_2 sout0_C_0; (try dsimp only)
        iintro ⟨⟨⟨HS0, Hoth⟩, Hg⟩, Ho, ⟨%d0, H0⟩, ⟨%d1, H1⟩, ⟨%d2, H2⟩⟩
        iapply ((kernelRun0_C c (grid0.coords t) _ _ _ _ _ _ _ _ (fun h => h0 ((hcond0_0 t).mp h)) ((hcond0_1 t).mpr h1) (iblk0 V c 0 t) _).2.2.2 Set.univ _)
        isplitl [H0]; · iexact H0
        isplitl [H1]; · iexists _; iexact H1
        isplitl [H2]; · iexists _; iexact H2
        isplitl [HS0]; · iexact HS0
        iintro ⟨H0, ⟨%e1, H1⟩, ⟨%e2, H2⟩, ⟨%es0, HS0⟩⟩
        isplitl [HS0 Hoth Hg]
        · isplitl [HS0 Hoth]
          · isplitl [HS0]; swap; · iexact Hoth
            unfold owns; iexists _; isplitr
            swap; · iexact HS0
            ipureintro; exact View.read_writes_of_cover _ _ _ _ _ (scover0_C_0 c _ _ _ _ _ _ _ _ _ _ _ _ _)
          iexact Hg
        isplitl [Ho]; · iexact Ho
        isplitl [H0]; · iexact H0
        isplitl [H1]
        · unfold owns; iexists _; isplitr
          swap; · iexact H1
          ipureintro; exact View.read_writes_of_cover _ _ _ _ _ (cover0_C_1 c _ _ _ _ _ _ _ _ _ _ _ _ _)
        unfold owns; iexists _; isplitr
        swap; · iexact H2
        ipureintro; exact View.read_writes_of_cover _ _ _ _ _ (cover0_C_2 c _ _ _ _ _ _ _ _ _ _ _ _ _)
    · rw [show (dat0 V c).leavesExact 0 t = owns (c : Thread nD τ) (ms0_0 t) fullShare ((dat0 V c).after 0 t) from by
      unfold Dat.leavesExact; rw [liveAt0_0 t], after0_0]
      rw [Dat.leavesExact_idle (dat0 V c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      by_cases hz : t.val = 0
      · exfalso; have hN : t.val < 18 := lt_of_lt_of_eq t.isLt (show cfg0.N = 18 from N_0); omega
      · rw [PhiS0_castSucc V c t, PhiS0_pos V c _ _ hz]
        rw [outsAt0_B V c t h0 h1]
        unfold sout0_B_0; (try dsimp only)
        iintro ⟨⟨⟨HS0, Hoth⟩, Hg⟩, Ho, ⟨%d0, H0⟩, ⟨%d1, H1⟩, ⟨%d2, H2⟩⟩
        iapply ((kernelRun0_B c (grid0.coords t) _ _ _ _ _ _ _ _ (fun h => h0 ((hcond0_0 t).mp h)) (fun h => h1 ((hcond0_1 t).mp h)) (iblk0 V c 0 t) _).2.2.2 _ _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0 Hoth]
          · isplitl [HS0]; swap; · iexact Hoth
            unfold owns; iexists _; isplitr
            swap; · iexact HS0
            ipureintro; exact View.read_writes_of_cover _ _ _ _ _ (scover0_B_0 c _ _ _ _ _ _ _ _ _ _ _ _ _)
          iexact Hg
        isplitl [Ho]; · iexact Ho
        isplitl [H0]; · iexact H0
        isplitl [H1]; · iexists _; iexact H1
        iexists _; iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- What the launch hands the region (`ΦA`) is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives `ΦA` back: the carried scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hoth⟩, Hg⟩
  isplitl [HS0 Hoth]
  · isplitl [HS0]; · iexists _; iexact HS0
    iexact Hoth
  iexact Hg

/-- The same after the last point. -/
theorem hout0 (c : Dev nD) : (dat0 V c).Φ (Fin.last cfg0.N) ⊢ Pipeline.ΦA spec0 c :=
  Phi_out0 V c _ (by rw [Fin.val_last]; have : cfg0.N = 18 := N_0; omega)

end Cert.Kernel.Run

end
-- ==== Proof.KernelRun.Region1.lean ====
/- Region 1 of @main (the weight-gradient product) at any entry contents `V`: the triple of its body at each grid
   point, what its two outputs hold after each point, the proof data of its pipeline and the body obligation. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Pipeline.RegionsLoop
public import Idealize.ShloMosaic.Lib.Ring
public import Idealize.ShloMosaic.Lib.Tactic
public import Idealize.ShloMosaic.Lib.WordCmp

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 1 of @main: custom_call 1, `cc1_dw_matmul` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 0).val) 0#32)) 0#32) = 1#1
/-- It holds at the first point only — by arithmetic of the point. -/
theorem hcond1_0 : ∀ t : Fin cfg1.N, cond1_0 (grid1.coords t) ↔ t.val % 18 = 0 :=
  (fun t => by
    have ht : t.val < 18 := Nat.lt_of_lt_of_eq t.isLt N_1
    have e0 : (grid1.coords t 0).val = t.val / 1 % 18 := Pipeline.Grid.coords_val t 0 (by decide) rfl
    simp only [cond1_0, e0]
    word_cmp
   : ∀ t : Fin grid1.N, cond1_0 (grid1.coords t) ↔ t.val % 18 = 0)

/-- The condition of the body's `scf.if` 1 (`k1_h2`), from the grid coordinates (the skeleton's scalar
    chain substituted). -/
abbrev cond1_1 (i : grid1.Coords) : Prop := (Scalar.cmpi .ne (Scalar.extui (Scalar.cmpi .eq (BitVec.ofNat 32 (i 0).val) 17#32)) 0#32) = 1#1
/-- It holds at the last point only — by arithmetic of the point. -/
theorem hcond1_1 : ∀ t : Fin cfg1.N, cond1_1 (grid1.coords t) ↔ t.val % 18 = 17 :=
  (fun t => by
    have ht : t.val < 18 := Nat.lt_of_lt_of_eq t.isLt N_1
    have e0 : (grid1.coords t 0).val = t.val / 1 % 18 := Pipeline.Grid.coords_val t 0 (by decide) rfl
    simp only [cond1_1, e0]
    word_cmp
   : ∀ t : Fin grid1.N, cond1_1 (grid1.coords t) ↔ t.val % 18 = 17)

/-! ## The kernel body on any staging memrefs: a subtype the run finds -/

/-- One staging buffer of output window 6, through which its contents are stated (`View.read_writes_of_cover`: the
    choice does not matter). -/
abbrev VO1_6 : View sig .tc .vmem S3712x1280 .f32 := (Memref.whole cc1_stg6_0 : Memref sig .tc .vmem S3712x1280 .f32).view
/-- One staging buffer of output window 7, through which its contents are stated (`View.read_writes_of_cover`: the
    choice does not matter). -/
abbrev VO1_7 : View sig .tc .vmem S512x1280 .fp8e5m2 := (Memref.whole cc1_stg7_0 : Memref sig .tc .vmem S512x1280 .fp8e5m2).view
/-- Each window's current staging memref at point `t`, spelled as the pipeline passes it (`bodyAt1`), and its wholeness. -/
abbrev ms1_0 (t : Fin cfg1.N) : Memref sig .tc .smem S1x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .smem S1x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .smem S1x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x3712 .fp8e4m3 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x1280 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S3712x1280 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S3712x1280 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S512x1280 .fp8e5m2 := win1_7.stage (cfg1.slots t 7)
abbrev hs1_7 (t : Fin cfg1.N) : (ms1_7 t).IsWhole := hstage1_7 ((cfg1.slots t 7).cast nbuf1_7)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg1 : Memref sig .tc .smem S1x1 .f32) (harg1 : arg1.IsWhole) (arg2 : Memref sig .tc .smem S1x1 .f32) (harg2 : arg2.IsWhole) (arg3 : Memref sig .tc .smem S1x1 .f32) (harg3 : arg3.IsWhole) (arg4 : Memref sig .tc .vmem S512x3712 .fp8e4m3) (harg4 : arg4.IsWhole) (arg5 : Memref sig .tc .vmem S512x1280 .bf16) (harg5 : arg5.IsWhole) (arg6 : Memref sig .tc .vmem S3712x1280 .f32) (harg6 : arg6.IsWhole) (arg7 : Memref sig .tc .vmem S3712x1280 .f32) (harg7 : arg7.IsWhole) (arg8 : Memref sig .tc .vmem S512x1280 .fp8e5m2) (harg8 : arg8.IsWhole) (hc0 : cond1_0 i) (hc1 : ¬cond1_1 i)
    (x0 : Vec F S1x1 .f32) (x1 : Vec F S1x1 .f32) (x2 : Vec F S1x1 .f32) (x3 : Vec F S512x3712 .fp8e4m3) (x4 : Vec F S512x1280 .bf16) (x5 : Vec F S3712x1280 .f32) :
    Σ' (L6 : List (View.Piece (Elt F) S3712x1280 .f32)), { L7 : List (View.Piece (Elt F) S512x1280 .fp8e5m2) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc1_dw_matmul i arg1 harg1 arg2 harg2 arg3 harg3 arg4 harg4 arg5 harg5 arg6 harg6 arg7 harg7 arg8 harg8) K } := by
  refine ⟨?_, ?_, fun E K => ?run⟩
  case run =>
    simp only [cc1_dw_matmul_eq_skeleton]; unfold cc1_dw_matmul_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

/-- Case A's pieces for output 6 tile its block (2 stores of `S3712x1280`, checked by the kernel's evaluation: Lib/Ring.lean `Piece.tiledL`, linear in the pieces, through a loop's `@[irreducible]` trip theorem too), so they cover it. -/
theorem cover1_A_6 (c : Dev nD) (i : grid1.Coords) (arg1 : Memref sig .tc .smem S1x1 .f32) (harg1 : arg1.IsWhole) (arg2 : Memref sig .tc .smem S1x1 .f32) (harg2 : arg2.IsWhole) (arg3 : Memref sig .tc .smem S1x1 .f32) (harg3 : arg3.IsWhole) (arg4 : Memref sig .tc .vmem S512x3712 .fp8e4m3) (harg4 : arg4.IsWhole) (arg5 : Memref sig .tc .vmem S512x1280 .bf16) (harg5 : arg5.IsWhole) (arg6 : Memref sig .tc .vmem S3712x1280 .f32) (harg6 : arg6.IsWhole) (arg7 : Memref sig .tc .vmem S3712x1280 .f32) (harg7 : arg7.IsWhole) (arg8 : Memref sig .tc .vmem S512x1280 .fp8e5m2) (harg8 : arg8.IsWhole) (hc0 : cond1_0 i) (hc1 : ¬cond1_1 i)
    (x0 : Vec F S1x1 .f32) (x1 : Vec F S1x1 .f32) (x2 : Vec F S1x1 .f32) (x3 : Vec F S512x3712 .fp8e4m3) (x4 : Vec F S512x1280 .bf16) (x5 : Vec F S3712x1280 .f32) (y : S3712x1280.Idx) :
    ∃ pc ∈ (kernelRun1_A c i arg1 harg1 arg2 harg2 arg3 harg3 arg4 harg4 arg5 harg5 arg6 harg6 arg7 harg7 arg8 harg8 hc0 hc1 x0 x1 x2 x3 x4 x5).1, y ∈ pc.1.set :=
  View.cover_of_tiledL (kernelRun1_A c i arg1 harg1 arg2 harg2 arg3 harg3 arg4 harg4 arg5 harg5 arg6 harg6 arg7 harg7 arg8 harg8 hc0 hc1 x0 x1 x2 x3 x4 x5).1 S3712x1280.size (by sl_kernel_rfl) y

/-- What case A leaves in output 6's staging buffer: its pieces read back over junk. -/
def out1_A_6 (c : Dev nD) (i : grid1.Coords) (arg1 : Memref sig .tc .smem S1x1 .f32) (harg1 : arg1.IsWhole) (arg2 : Memref sig .tc .smem S1x1 .f32) (harg2 : arg2.IsWhole) (arg3 : Memref sig .tc .smem S1x1 .f32) (harg3 : arg3.IsWhole) (arg4 : Memref sig .tc .vmem S512x3712 .fp8e4m3) (harg4 : arg4.IsWhole) (arg5 : Memref sig .tc .vmem S512x1280 .bf16) (harg5 : arg5.IsWhole) (arg6 : Memref sig .tc .vmem S3712x1280 .f32) (harg6 : arg6.IsWhole) (arg7 : Memref sig .tc .vmem S3712x1280 .f32) (harg7 : arg7.IsWhole) (arg8 : Memref sig .tc .vmem S512x1280 .fp8e5m2) (harg8 : arg8.IsWhole) (hc0 : cond1_0 i) (hc1 : ¬cond1_1 i)
    (x0 : Vec F S1x1 .f32) (x1 : Vec F S1x1 .f32) (x2 : Vec F S1x1 .f32) (x3 : Vec F S512x3712 .fp8e4m3) (x4 : Vec F S512x1280 .bf16) (x5 : Vec F S3712x1280 .f32) : Vec F S3712x1280 .f32 :=
  VO1_6.read (Elt F) (VO1_6.writes (Elt F) VO1_6.junk (kernelRun1_A c i arg1 harg1 arg2 harg2 arg3 harg3 arg4 harg4 arg5 harg5 arg6 harg6 arg7 harg7 arg8 harg8 hc0 hc1 x0 x1 x2 x3 x4 x5).1)

/-- Case A's pieces for output 7 tile its block (1 store of `S512x1280`, checked by the kernel's evaluation: Lib/Ring.lean `Piece.tiledL`, linear in the pieces, through a loop's `@[irreducible]` trip theorem too), so they cover it. -/
theorem cover1_A_7 (c : Dev nD) (i : grid1.Coords) (arg1 : Memref sig .tc .smem S1x1 .f32) (harg1 : arg1.IsWhole) (arg2 : Memref sig .tc .smem S1x1 .f32) (harg2 : arg2.IsWhole) (arg3 : Memref sig .tc .smem S1x1 .f32) (harg3 : arg3.IsWhole) (arg4 : Memref sig .tc .vmem S512x3712 .fp8e4m3) (harg4 : arg4.IsWhole) (arg5 : Memref sig .tc .vmem S512x1280 .bf16) (harg5 : arg5.IsWhole) (arg6 : Memref sig .tc .vmem S3712x1280 .f32) (harg6 : arg6.IsWhole) (arg7 : Memref sig .tc .vmem S3712x1280 .f32) (harg7 : arg7.IsWhole) (arg8 : Memref sig .tc .vmem S512x1280 .fp8e5m2) (harg8 : arg8.IsWhole) (hc0 : cond1_0 i) (hc1 : ¬cond1_1 i)
    (x0 : Vec F S1x1 .f32) (x1 : Vec F S1x1 .f32) (x2 : Vec F S1x1 .f32) (x3 : Vec F S512x3712 .fp8e4m3) (x4 : Vec F S512x1280 .bf16) (x5 : Vec F S3712x1280 .f32) (y : S512x1280.Idx) :
    ∃ pc ∈ (kernelRun1_A c i arg1 harg1 arg2 harg2 arg3 harg3 arg4 harg4 arg5 harg5 arg6 harg6 arg7 harg7 arg8 harg8 hc0 hc1 x0 x1 x2 x3 x4 x5).2.1, y ∈ pc.1.set :=
  View.cover_of_tiledL (kernelRun1_A c i arg1 harg1 arg2 harg2 arg3 harg3 arg4 harg4 arg5 harg5 arg6 harg6 arg7 harg7 arg8 harg8 hc0 hc1 x0 x1 x2 x3 x4 x5).2.1 S512x1280.size (by sl_kernel_rfl) y

/-- What case A leaves in output 7's staging buffer: its pieces read back over junk. -/
def out1_A_7 (c : Dev nD) (i : grid1.Coords) (arg1 : Memref sig .tc .smem S1x1 .f32) (harg1 : arg1.IsWhole) (arg2 : Memref sig .tc .smem S1x1 .f32) (harg2 : arg2.IsWhole) (arg3 : Memref sig .tc .smem S1x1 .f32) (harg3 : arg3.IsWhole) (arg4 : Memref sig .tc .vmem S512x3712 .fp8e4m3) (harg4 : arg4.IsWhole) (arg5 : Memref sig .tc .vmem S512x1280 .bf16) (harg5 : arg5.IsWhole) (arg6 : Memref sig .tc .vmem S3712x1280 .f32) (harg6 : arg6.IsWhole) (arg7 : Memref sig .tc .vmem S3712x1280 .f32) (harg7 : arg7.IsWhole) (arg8 : Memref sig .tc .vmem S512x1280 .fp8e5m2) (harg8 : arg8.IsWhole) (hc0 : cond1_0 i) (hc1 : ¬cond1_1 i)
    (x0 : Vec F S1x1 .f32) (x1 : Vec F S1x1 .f32) (x2 : Vec F S1x1 .f32) (x3 : Vec F S512x3712 .fp8e4m3) (x4 : Vec F S512x1280 .bf16) (x5 : Vec F S3712x1280 .f32) : Vec F S512x1280 .fp8e5m2 :=
  VO1_7.read (Elt F) (VO1_7.writes (Elt F) VO1_7.junk (kernelRun1_A c i arg1 harg1 arg2 harg2 arg3 harg3 arg4 harg4 arg5 harg5 arg6 harg6 arg7 harg7 arg8 harg8 hc0 hc1 x0 x1 x2 x3 x4 x5).2.1)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 16: 16 of 18), WITH the
    proof that on whole staging memrefs — the inputs' at their contents, the outputs it reads before covering (6) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg1 : Memref sig .tc .smem S1x1 .f32) (harg1 : arg1.IsWhole) (arg2 : Memref sig .tc .smem S1x1 .f32) (harg2 : arg2.IsWhole) (arg3 : Memref sig .tc .smem S1x1 .f32) (harg3 : arg3.IsWhole) (arg4 : Memref sig .tc .vmem S512x3712 .fp8e4m3) (harg4 : arg4.IsWhole) (arg5 : Memref sig .tc .vmem S512x1280 .bf16) (harg5 : arg5.IsWhole) (arg6 : Memref sig .tc .vmem S3712x1280 .f32) (harg6 : arg6.IsWhole) (arg7 : Memref sig .tc .vmem S3712x1280 .f32) (harg7 : arg7.IsWhole) (arg8 : Memref sig .tc .vmem S512x1280 .fp8e5m2) (harg8 : arg8.IsWhole) (hc0 : ¬cond1_0 i) (hc1 : ¬cond1_1 i)
    (x0 : Vec F S1x1 .f32) (x1 : Vec F S1x1 .f32) (x2 : Vec F S1x1 .f32) (x3 : Vec F S512x3712 .fp8e4m3) (x4 : Vec F S512x1280 .bf16) (x5 : Vec F S3712x1280 .f32) (xo6 : Vec F S3712x1280 .f32) :
    Σ' (L6 : List (View.Piece (Elt F) S3712x1280 .f32)), { L7 : List (View.Piece (Elt F) S512x1280 .fp8e5m2) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xo6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc1_dw_matmul i arg1 harg1 arg2 harg2 arg3 harg3 arg4 harg4 arg5 harg5 arg6 harg6 arg7 harg7 arg8 harg8) K } := by
  refine ⟨?_, ?_, fun E K => ?run⟩
  case run =>
    simp only [cc1_dw_matmul_eq_skeleton]; unfold cc1_dw_matmul_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

/-- Case B's pieces for output 6 tile its block (1 store of `S3712x1280`, checked by the kernel's evaluation: Lib/Ring.lean `Piece.tiledL`, linear in the pieces, through a loop's `@[irreducible]` trip theorem too), so they cover it. -/
theorem cover1_B_6 (c : Dev nD) (i : grid1.Coords) (arg1 : Memref sig .tc .smem S1x1 .f32) (harg1 : arg1.IsWhole) (arg2 : Memref sig .tc .smem S1x1 .f32) (harg2 : arg2.IsWhole) (arg3 : Memref sig .tc .smem S1x1 .f32) (harg3 : arg3.IsWhole) (arg4 : Memref sig .tc .vmem S512x3712 .fp8e4m3) (harg4 : arg4.IsWhole) (arg5 : Memref sig .tc .vmem S512x1280 .bf16) (harg5 : arg5.IsWhole) (arg6 : Memref sig .tc .vmem S3712x1280 .f32) (harg6 : arg6.IsWhole) (arg7 : Memref sig .tc .vmem S3712x1280 .f32) (harg7 : arg7.IsWhole) (arg8 : Memref sig .tc .vmem S512x1280 .fp8e5m2) (harg8 : arg8.IsWhole) (hc0 : ¬cond1_0 i) (hc1 : ¬cond1_1 i)
    (x0 : Vec F S1x1 .f32) (x1 : Vec F S1x1 .f32) (x2 : Vec F S1x1 .f32) (x3 : Vec F S512x3712 .fp8e4m3) (x4 : Vec F S512x1280 .bf16) (x5 : Vec F S3712x1280 .f32) (xo6 : Vec F S3712x1280 .f32) (y : S3712x1280.Idx) :
    ∃ pc ∈ (kernelRun1_B c i arg1 harg1 arg2 harg2 arg3 harg3 arg4 harg4 arg5 harg5 arg6 harg6 arg7 harg7 arg8 harg8 hc0 hc1 x0 x1 x2 x3 x4 x5 xo6).1, y ∈ pc.1.set :=
  View.cover_of_tiledL (kernelRun1_B c i arg1 harg1 arg2 harg2 arg3 harg3 arg4 harg4 arg5 harg5 arg6 harg6 arg7 harg7 arg8 harg8 hc0 hc1 x0 x1 x2 x3 x4 x5 xo6).1 S3712x1280.size (by sl_kernel_rfl) y

/-- What case B leaves in output 6's staging buffer: its pieces read back over junk. -/
def out1_B_6 (c : Dev nD) (i : grid1.Coords) (arg1 : Memref sig .tc .smem S1x1 .f32) (harg1 : arg1.IsWhole) (arg2 : Memref sig .tc .smem S1x1 .f32) (harg2 : arg2.IsWhole) (arg3 : Memref sig .tc .smem S1x1 .f32) (harg3 : arg3.IsWhole) (arg4 : Memref sig .tc .vmem S512x3712 .fp8e4m3) (harg4 : arg4.IsWhole) (arg5 : Memref sig .tc .vmem S512x1280 .bf16) (harg5 : arg5.IsWhole) (arg6 : Memref sig .tc .vmem S3712x1280 .f32) (harg6 : arg6.IsWhole) (arg7 : Memref sig .tc .vmem S3712x1280 .f32) (harg7 : arg7.IsWhole) (arg8 : Memref sig .tc .vmem S512x1280 .fp8e5m2) (harg8 : arg8.IsWhole) (hc0 : ¬cond1_0 i) (hc1 : ¬cond1_1 i)
    (x0 : Vec F S1x1 .f32) (x1 : Vec F S1x1 .f32) (x2 : Vec F S1x1 .f32) (x3 : Vec F S512x3712 .fp8e4m3) (x4 : Vec F S512x1280 .bf16) (x5 : Vec F S3712x1280 .f32) (xo6 : Vec F S3712x1280 .f32) : Vec F S3712x1280 .f32 :=
  VO1_6.read (Elt F) (VO1_6.writes (Elt F) VO1_6.junk (kernelRun1_B c i arg1 harg1 arg2 harg2 arg3 harg3 arg4 harg4 arg5 harg5 arg6 harg6 arg7 harg7 arg8 harg8 hc0 hc1 x0 x1 x2 x3 x4 x5 xo6).1)

/-- Case B's pieces for output 7 tile its block (1 store of `S512x1280`, checked by the kernel's evaluation: Lib/Ring.lean `Piece.tiledL`, linear in the pieces, through a loop's `@[irreducible]` trip theorem too), so they cover it. -/
theorem cover1_B_7 (c : Dev nD) (i : grid1.Coords) (arg1 : Memref sig .tc .smem S1x1 .f32) (harg1 : arg1.IsWhole) (arg2 : Memref sig .tc .smem S1x1 .f32) (harg2 : arg2.IsWhole) (arg3 : Memref sig .tc .smem S1x1 .f32) (harg3 : arg3.IsWhole) (arg4 : Memref sig .tc .vmem S512x3712 .fp8e4m3) (harg4 : arg4.IsWhole) (arg5 : Memref sig .tc .vmem S512x1280 .bf16) (harg5 : arg5.IsWhole) (arg6 : Memref sig .tc .vmem S3712x1280 .f32) (harg6 : arg6.IsWhole) (arg7 : Memref sig .tc .vmem S3712x1280 .f32) (harg7 : arg7.IsWhole) (arg8 : Memref sig .tc .vmem S512x1280 .fp8e5m2) (harg8 : arg8.IsWhole) (hc0 : ¬cond1_0 i) (hc1 : ¬cond1_1 i)
    (x0 : Vec F S1x1 .f32) (x1 : Vec F S1x1 .f32) (x2 : Vec F S1x1 .f32) (x3 : Vec F S512x3712 .fp8e4m3) (x4 : Vec F S512x1280 .bf16) (x5 : Vec F S3712x1280 .f32) (xo6 : Vec F S3712x1280 .f32) (y : S512x1280.Idx) :
    ∃ pc ∈ (kernelRun1_B c i arg1 harg1 arg2 harg2 arg3 harg3 arg4 harg4 arg5 harg5 arg6 harg6 arg7 harg7 arg8 harg8 hc0 hc1 x0 x1 x2 x3 x4 x5 xo6).2.1, y ∈ pc.1.set :=
  View.cover_of_tiledL (kernelRun1_B c i arg1 harg1 arg2 harg2 arg3 harg3 arg4 harg4 arg5 harg5 arg6 harg6 arg7 harg7 arg8 harg8 hc0 hc1 x0 x1 x2 x3 x4 x5 xo6).2.1 S512x1280.size (by sl_kernel_rfl) y

/-- What case B leaves in output 7's staging buffer: its pieces read back over junk. -/
def out1_B_7 (c : Dev nD) (i : grid1.Coords) (arg1 : Memref sig .tc .smem S1x1 .f32) (harg1 : arg1.IsWhole) (arg2 : Memref sig .tc .smem S1x1 .f32) (harg2 : arg2.IsWhole) (arg3 : Memref sig .tc .smem S1x1 .f32) (harg3 : arg3.IsWhole) (arg4 : Memref sig .tc .vmem S512x3712 .fp8e4m3) (harg4 : arg4.IsWhole) (arg5 : Memref sig .tc .vmem S512x1280 .bf16) (harg5 : arg5.IsWhole) (arg6 : Memref sig .tc .vmem S3712x1280 .f32) (harg6 : arg6.IsWhole) (arg7 : Memref sig .tc .vmem S3712x1280 .f32) (harg7 : arg7.IsWhole) (arg8 : Memref sig .tc .vmem S512x1280 .fp8e5m2) (harg8 : arg8.IsWhole) (hc0 : ¬cond1_0 i) (hc1 : ¬cond1_1 i)
    (x0 : Vec F S1x1 .f32) (x1 : Vec F S1x1 .f32) (x2 : Vec F S1x1 .f32) (x3 : Vec F S512x3712 .fp8e4m3) (x4 : Vec F S512x1280 .bf16) (x5 : Vec F S3712x1280 .f32) (xo6 : Vec F S3712x1280 .f32) : Vec F S512x1280 .fp8e5m2 :=
  VO1_7.read (Elt F) (VO1_7.writes (Elt F) VO1_7.junk (kernelRun1_B c i arg1 harg1 arg2 harg2 arg3 harg3 arg4 harg4 arg5 harg5 arg6 harg6 arg7 harg7 arg8 harg8 hc0 hc1 x0 x1 x2 x3 x4 x5 xo6).2.1)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 17), WITH the
    proof that on whole staging memrefs — the inputs' at their contents, the outputs it reads before covering (6) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_C (c : Dev nD) (i : grid1.Coords) (arg1 : Memref sig .tc .smem S1x1 .f32) (harg1 : arg1.IsWhole) (arg2 : Memref sig .tc .smem S1x1 .f32) (harg2 : arg2.IsWhole) (arg3 : Memref sig .tc .smem S1x1 .f32) (harg3 : arg3.IsWhole) (arg4 : Memref sig .tc .vmem S512x3712 .fp8e4m3) (harg4 : arg4.IsWhole) (arg5 : Memref sig .tc .vmem S512x1280 .bf16) (harg5 : arg5.IsWhole) (arg6 : Memref sig .tc .vmem S3712x1280 .f32) (harg6 : arg6.IsWhole) (arg7 : Memref sig .tc .vmem S3712x1280 .f32) (harg7 : arg7.IsWhole) (arg8 : Memref sig .tc .vmem S512x1280 .fp8e5m2) (harg8 : arg8.IsWhole) (hc0 : ¬cond1_0 i) (hc1 : cond1_1 i)
    (x0 : Vec F S1x1 .f32) (x1 : Vec F S1x1 .f32) (x2 : Vec F S1x1 .f32) (x3 : Vec F S512x3712 .fp8e4m3) (x4 : Vec F S512x1280 .bf16) (x5 : Vec F S3712x1280 .f32) (xo6 : Vec F S3712x1280 .f32) :
    Σ' (L6 : List (View.Piece (Elt F) S3712x1280 .f32)), { L7 : List (View.Piece (Elt F) S512x1280 .fp8e5m2) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xo6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc1_dw_matmul i arg1 harg1 arg2 harg2 arg3 harg3 arg4 harg4 arg5 harg5 arg6 harg6 arg7 harg7 arg8 harg8) K } := by
  refine ⟨?_, ?_, fun E K => ?run⟩
  case run =>
    simp only [cc1_dw_matmul_eq_skeleton]; unfold cc1_dw_matmul_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

/-- Case C's pieces for output 6 tile its block (2 stores of `S3712x1280`, checked by the kernel's evaluation: Lib/Ring.lean `Piece.tiledL`, linear in the pieces, through a loop's `@[irreducible]` trip theorem too), so they cover it. -/
theorem cover1_C_6 (c : Dev nD) (i : grid1.Coords) (arg1 : Memref sig .tc .smem S1x1 .f32) (harg1 : arg1.IsWhole) (arg2 : Memref sig .tc .smem S1x1 .f32) (harg2 : arg2.IsWhole) (arg3 : Memref sig .tc .smem S1x1 .f32) (harg3 : arg3.IsWhole) (arg4 : Memref sig .tc .vmem S512x3712 .fp8e4m3) (harg4 : arg4.IsWhole) (arg5 : Memref sig .tc .vmem S512x1280 .bf16) (harg5 : arg5.IsWhole) (arg6 : Memref sig .tc .vmem S3712x1280 .f32) (harg6 : arg6.IsWhole) (arg7 : Memref sig .tc .vmem S3712x1280 .f32) (harg7 : arg7.IsWhole) (arg8 : Memref sig .tc .vmem S512x1280 .fp8e5m2) (harg8 : arg8.IsWhole) (hc0 : ¬cond1_0 i) (hc1 : cond1_1 i)
    (x0 : Vec F S1x1 .f32) (x1 : Vec F S1x1 .f32) (x2 : Vec F S1x1 .f32) (x3 : Vec F S512x3712 .fp8e4m3) (x4 : Vec F S512x1280 .bf16) (x5 : Vec F S3712x1280 .f32) (xo6 : Vec F S3712x1280 .f32) (y : S3712x1280.Idx) :
    ∃ pc ∈ (kernelRun1_C c i arg1 harg1 arg2 harg2 arg3 harg3 arg4 harg4 arg5 harg5 arg6 harg6 arg7 harg7 arg8 harg8 hc0 hc1 x0 x1 x2 x3 x4 x5 xo6).1, y ∈ pc.1.set :=
  View.cover_of_tiledL (kernelRun1_C c i arg1 harg1 arg2 harg2 arg3 harg3 arg4 harg4 arg5 harg5 arg6 harg6 arg7 harg7 arg8 harg8 hc0 hc1 x0 x1 x2 x3 x4 x5 xo6).1 S3712x1280.size (by sl_kernel_rfl) y

/-- What case C leaves in output 6's staging buffer: its pieces read back over junk. -/
def out1_C_6 (c : Dev nD) (i : grid1.Coords) (arg1 : Memref sig .tc .smem S1x1 .f32) (harg1 : arg1.IsWhole) (arg2 : Memref sig .tc .smem S1x1 .f32) (harg2 : arg2.IsWhole) (arg3 : Memref sig .tc .smem S1x1 .f32) (harg3 : arg3.IsWhole) (arg4 : Memref sig .tc .vmem S512x3712 .fp8e4m3) (harg4 : arg4.IsWhole) (arg5 : Memref sig .tc .vmem S512x1280 .bf16) (harg5 : arg5.IsWhole) (arg6 : Memref sig .tc .vmem S3712x1280 .f32) (harg6 : arg6.IsWhole) (arg7 : Memref sig .tc .vmem S3712x1280 .f32) (harg7 : arg7.IsWhole) (arg8 : Memref sig .tc .vmem S512x1280 .fp8e5m2) (harg8 : arg8.IsWhole) (hc0 : ¬cond1_0 i) (hc1 : cond1_1 i)
    (x0 : Vec F S1x1 .f32) (x1 : Vec F S1x1 .f32) (x2 : Vec F S1x1 .f32) (x3 : Vec F S512x3712 .fp8e4m3) (x4 : Vec F S512x1280 .bf16) (x5 : Vec F S3712x1280 .f32) (xo6 : Vec F S3712x1280 .f32) : Vec F S3712x1280 .f32 :=
  VO1_6.read (Elt F) (VO1_6.writes (Elt F) VO1_6.junk (kernelRun1_C c i arg1 harg1 arg2 harg2 arg3 harg3 arg4 harg4 arg5 harg5 arg6 harg6 arg7 harg7 arg8 harg8 hc0 hc1 x0 x1 x2 x3 x4 x5 xo6).1)

/-- Case C's pieces for output 7 tile its block (1 store of `S512x1280`, checked by the kernel's evaluation: Lib/Ring.lean `Piece.tiledL`, linear in the pieces, through a loop's `@[irreducible]` trip theorem too), so they cover it. -/
theorem cover1_C_7 (c : Dev nD) (i : grid1.Coords) (arg1 : Memref sig .tc .smem S1x1 .f32) (harg1 : arg1.IsWhole) (arg2 : Memref sig .tc .smem S1x1 .f32) (harg2 : arg2.IsWhole) (arg3 : Memref sig .tc .smem S1x1 .f32) (harg3 : arg3.IsWhole) (arg4 : Memref sig .tc .vmem S512x3712 .fp8e4m3) (harg4 : arg4.IsWhole) (arg5 : Memref sig .tc .vmem S512x1280 .bf16) (harg5 : arg5.IsWhole) (arg6 : Memref sig .tc .vmem S3712x1280 .f32) (harg6 : arg6.IsWhole) (arg7 : Memref sig .tc .vmem S3712x1280 .f32) (harg7 : arg7.IsWhole) (arg8 : Memref sig .tc .vmem S512x1280 .fp8e5m2) (harg8 : arg8.IsWhole) (hc0 : ¬cond1_0 i) (hc1 : cond1_1 i)
    (x0 : Vec F S1x1 .f32) (x1 : Vec F S1x1 .f32) (x2 : Vec F S1x1 .f32) (x3 : Vec F S512x3712 .fp8e4m3) (x4 : Vec F S512x1280 .bf16) (x5 : Vec F S3712x1280 .f32) (xo6 : Vec F S3712x1280 .f32) (y : S512x1280.Idx) :
    ∃ pc ∈ (kernelRun1_C c i arg1 harg1 arg2 harg2 arg3 harg3 arg4 harg4 arg5 harg5 arg6 harg6 arg7 harg7 arg8 harg8 hc0 hc1 x0 x1 x2 x3 x4 x5 xo6).2.1, y ∈ pc.1.set :=
  View.cover_of_tiledL (kernelRun1_C c i arg1 harg1 arg2 harg2 arg3 harg3 arg4 harg4 arg5 harg5 arg6 harg6 arg7 harg7 arg8 harg8 hc0 hc1 x0 x1 x2 x3 x4 x5 xo6).2.1 S512x1280.size (by sl_kernel_rfl) y

/-- What case C leaves in output 7's staging buffer: its pieces read back over junk. -/
def out1_C_7 (c : Dev nD) (i : grid1.Coords) (arg1 : Memref sig .tc .smem S1x1 .f32) (harg1 : arg1.IsWhole) (arg2 : Memref sig .tc .smem S1x1 .f32) (harg2 : arg2.IsWhole) (arg3 : Memref sig .tc .smem S1x1 .f32) (harg3 : arg3.IsWhole) (arg4 : Memref sig .tc .vmem S512x3712 .fp8e4m3) (harg4 : arg4.IsWhole) (arg5 : Memref sig .tc .vmem S512x1280 .bf16) (harg5 : arg5.IsWhole) (arg6 : Memref sig .tc .vmem S3712x1280 .f32) (harg6 : arg6.IsWhole) (arg7 : Memref sig .tc .vmem S3712x1280 .f32) (harg7 : arg7.IsWhole) (arg8 : Memref sig .tc .vmem S512x1280 .fp8e5m2) (harg8 : arg8.IsWhole) (hc0 : ¬cond1_0 i) (hc1 : cond1_1 i)
    (x0 : Vec F S1x1 .f32) (x1 : Vec F S1x1 .f32) (x2 : Vec F S1x1 .f32) (x3 : Vec F S512x3712 .fp8e4m3) (x4 : Vec F S512x1280 .bf16) (x5 : Vec F S3712x1280 .f32) (xo6 : Vec F S3712x1280 .f32) : Vec F S512x1280 .fp8e5m2 :=
  VO1_7.read (Elt F) (VO1_7.writes (Elt F) VO1_7.junk (kernelRun1_C c i arg1 harg1 arg2 harg2 arg3 harg3 arg4 harg4 arg5 harg5 arg6 harg6 arg7 harg7 arg8 harg8 hc0 hc1 x0 x1 x2 x3 x4 x5 xo6).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S3712x1280 .f32 × Vec F S512x1280 .fp8e5m2
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), out1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 18 = 0 then
      if h1 : (n + 1) % 18 = 17 then
        False.elim (by have hN : n + 1 < 18 := lt_of_lt_of_eq hn (show cfg1.N = 18 from N_1); omega)
      else
        (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), out1_A_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 18 = 17 then
        (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).1, out1_C_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).1)
      else
        (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).1, out1_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).1)

/-- `outsAt1` at a point of case A: that case's contents. -/
theorem outsAt1_A (c : Dev nD) (t : Fin cfg1.N) (h0 : t.val % 18 = 0) (h1 : ¬t.val % 18 = 17) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (fun h => h1 ((hcond1_1 t).mp h)) (iblk1 V c 0 t) (iblk1 V c 1 t) (iblk1 V c 2 t) (iblk1 V c 3 t) (iblk1 V c 4 t) (iblk1 V c 5 t), out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 18 = 0) (h1 : ¬t.val % 18 = 17) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).1, out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).1) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 18 = 0) (h1 : t.val % 18 = 17) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).1, out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).1) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
    | ⟨7, _⟩ => (outsAt1 V c t.val t.isLt).2
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
/-- What the body leaves in window 1. -/
theorem after1_1 (c : Dev nD) (t : Fin cfg1.N) : (dat1 V c).after 1 t = iblk1 V c 1 t := by dsimp only [dat1]
/-- What the body leaves in window 2. -/
theorem after1_2 (c : Dev nD) (t : Fin cfg1.N) : (dat1 V c).after 2 t = iblk1 V c 2 t := by dsimp only [dat1]
/-- What the body leaves in window 3. -/
theorem after1_3 (c : Dev nD) (t : Fin cfg1.N) : (dat1 V c).after 3 t = iblk1 V c 3 t := by dsimp only [dat1]
/-- What the body leaves in window 4. -/
theorem after1_4 (c : Dev nD) (t : Fin cfg1.N) : (dat1 V c).after 4 t = iblk1 V c 4 t := by dsimp only [dat1]
/-- What the body leaves in window 5. -/
theorem after1_5 (c : Dev nD) (t : Fin cfg1.N) : (dat1 V c).after 5 t = iblk1 V c 5 t := by dsimp only [dat1]
/-- What the body leaves in window 6. -/
theorem after1_6 (c : Dev nD) (t : Fin cfg1.N) : (dat1 V c).after 6 t = (outsAt1 V c t.val t.isLt).1 := by dsimp only [dat1]
/-- What the body leaves in window 7. -/
theorem after1_7 (c : Dev nD) (t : Fin cfg1.N) : (dat1 V c).after 7 t = (outsAt1 V c t.val t.isLt).2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
/-- What the body finds in window 1. -/
theorem before1_1 (c : Dev nD) (t : Fin cfg1.N) (d) : (dat1 V c).before 1 t d = iblk1 V c 1 t :=
  before1_1_of V (dat1 V c) (A_eq1 V c 1) (after1_1 V c) t d
/-- What the body finds in window 2. -/
theorem before1_2 (c : Dev nD) (t : Fin cfg1.N) (d) : (dat1 V c).before 2 t d = iblk1 V c 2 t :=
  before1_2_of V (dat1 V c) (A_eq1 V c 2) (after1_2 V c) t d
/-- What the body finds in window 3. -/
theorem before1_3 (c : Dev nD) (t : Fin cfg1.N) (d) : (dat1 V c).before 3 t d = iblk1 V c 3 t :=
  before1_3_of V (dat1 V c) (A_eq1 V c 3) (after1_3 V c) t d
/-- What the body finds in window 4. -/
theorem before1_4 (c : Dev nD) (t : Fin cfg1.N) (d) : (dat1 V c).before 4 t d = iblk1 V c 4 t :=
  before1_4_of V (dat1 V c) (A_eq1 V c 4) (after1_4 V c) t d
/-- What the body finds in window 5. -/
theorem before1_5 (c : Dev nD) (t : Fin cfg1.N) (d) : (dat1 V c).before 5 t d = iblk1 V c 5 t :=
  before1_5_of V (dat1 V c) (A_eq1 V c 5) (after1_5 V c) t d
/-- At a point of case B output 6's current staging buffer holds what the body left at the point before: the point is
    not the first, the buffer was not written back between (`flush1_6`), the window is live and uncut (Lib/Pipeline/Frame.lean
    `Dat.before_out_kept`). -/
theorem before1_6_B (c : Dev nD) (t : Fin cfg1.N) (h0 : ¬t.val % 18 = 0) (h1 : ¬t.val % 18 = 17) (d) :
    (dat1 V c).before 6 t d = (outsAt1 V c (t.val - 1) (Nat.lt_of_le_of_lt (Nat.sub_le _ _) t.isLt)).1 := by
  have hN : t.val < 18 := lt_of_lt_of_eq t.isLt (show cfg1.N = 18 from N_1)
  rw [Dat.before_out_kept _ 6 rfl t (by omega) (Bool.eq_false_iff.mpr fun h => by have := (flush1_6 _).mp h; dsimp only at this; omega)
    (fun _ => rfl) (fun _ _ => rfl)]
  dsimp only [dat1]
/-- At a point of case C output 6's current staging buffer holds what the body left at the point before: the point is
    not the first, the buffer was not written back between (`flush1_6`), the window is live and uncut (Lib/Pipeline/Frame.lean
    `Dat.before_out_kept`). -/
theorem before1_6_C (c : Dev nD) (t : Fin cfg1.N) (h0 : ¬t.val % 18 = 0) (h1 : t.val % 18 = 17) (d) :
    (dat1 V c).before 6 t d = (outsAt1 V c (t.val - 1) (Nat.lt_of_le_of_lt (Nat.sub_le _ _) t.isLt)).1 := by
  have hN : t.val < 18 := lt_of_lt_of_eq t.isLt (show cfg1.N = 18 from N_1)
  rw [Dat.before_out_kept _ 6 rfl t (by omega) (Bool.eq_false_iff.mpr fun h => by have := (flush1_6 _).mp h; dsimp only at this; omega)
    (fun _ => rfl) (fun _ _ => rfl)]
  dsimp only [dat1]

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t))

set_option maxHeartbeats 2400000 in
/-- The body at any point: the inputs' memrefs hold their blocks (`before1_W`); the closed forms say which case the point is in (`by_cases`), an output the case reads before covering holds what the point before left (`before1_W_κ`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  have hN : t.val < 18 := lt_of_lt_of_eq t.isLt (show cfg1.N = 18 from N_1)
  by_cases h0 : t.val % 18 = 0
  · by_cases h1 : t.val % 18 = 17
    · exfalso; omega
    · rw [outsAt1_A V c t h0 h1]
      unfold out1_A_6 out1_A_7; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      iintro ⟨H0, H1, H2, H3, H4, H5, ⟨%e6, H6⟩, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_A_6 c _ _ _ _ _ _ _ _ _ _ _ _ _ _ _ _ _ _ _ _ _ _ _ _ _)
      unfold owns; iexists _; isplitr
      swap; · iexact H7
      ipureintro; exact View.read_writes_of_cover _ _ _ _ _ (cover1_A_7 c _ _ _ _ _ _ _ _ _ _ _ _ _ _ _ _ _ _ _ _ _ _ _ _ _)
  · by_cases h1 : t.val % 18 = 17
    · rw [outsAt1_C V c t h0 h1]
      simp only [before1_6_C V c t h0 h1]
      unfold out1_C_6 out1_C_7; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iintro ⟨H0, H1, H2, H3, H4, H5, ⟨%e6, H6⟩, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_C_6 c _ _ _ _ _ _ _ _ _ _ _ _ _ _ _ _ _ _ _ _ _ _ _ _ _ _)
      unfold owns; iexists _; isplitr
      swap; · iexact H7
      ipureintro; exact View.read_writes_of_cover _ _ _ _ _ (cover1_C_7 c _ _ _ _ _ _ _ _ _ _ _ _ _ _ _ _ _ _ _ _ _ _ _ _ _ _)
    · rw [outsAt1_B V c t h0 h1]
      simp only [before1_6_B V c t h0 h1]
      unfold out1_B_6 out1_B_7; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iintro ⟨H0, H1, H2, H3, H4, H5, ⟨%e6, H6⟩, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_B_6 c _ _ _ _ _ _ _ _ _ _ _ _ _ _ _ _ _ _ _ _ _ _ _ _ _ _)
      unfold owns; iexists _; isplitr
      swap; · iexact H7
      ipureintro; exact View.read_writes_of_cover _ _ _ _ _ (cover1_B_7 c _ _ _ _ _ _ _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.Kernel.Run

end
-- ==== Proof.KernelRun.Whole.lean ====
/- The run of @main: its five segments (host stretches and the two regions), the buffer contents at every boundary,
   and the frame. -/
module

public import proofs.«01_k».proof.Proof.KernelRun.Region0
public import proofs.«01_k».proof.Proof.KernelRun.Region1
public import Idealize.ShloMosaic.Lib.Pipeline.FrameBody
public import Idealize.ShloMosaic.Lib.Pipeline.FrameSuffix
public import Idealize.ShloMosaic.Lib.Pipeline.RegionsLoop
public import Idealize.ShloMosaic.Lib.Ring
public import Idealize.ShloMosaic.Lib.Tactic
public import Idealize.ShloMosaic.Lib.WordCmp

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
/-- The buffers host stretch 0 writes. -/
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v3]
/-- The buffers host stretch 1 writes. -/
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v5, main_v6]
/-- The buffers host stretch 2 writes. -/
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
/-- The arguments are as launched at boundary 0. -/
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- The arguments are as launched at boundary 1. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
/-- After region 0 its arrays hold what its pipeline leaves. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- Region 0 changes no other buffer. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
/-- The arguments are as launched at boundary 2. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
/-- The same, at references. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
/-- The arguments are as launched at boundary 3. -/
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
/-- After region 1 its arrays hold what its pipeline leaves. -/
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
/-- Region 1 changes no other buffer. -/
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
/-- The arguments are as launched at boundary 4. -/
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
/-- The same, at references. -/
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
/-- The arguments are as launched at boundary 5. -/
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

/-- Argument 0 ends as launched. -/
theorem W5_main_arg0 (c : Dev nD) : W5 m ρ c (Proc.devRef .tc main_arg0) = m ((c : Thread nD τ).loc main_arg0) :=
  W5_args m ρ c main_arg0 (by decide)
/-- Argument 1 ends as launched. -/
theorem W5_main_arg1 (c : Dev nD) : W5 m ρ c (Proc.devRef .tc main_arg1) = m ((c : Thread nD τ).loc main_arg1) :=
  W5_args m ρ c main_arg1 (by decide)
/-- Argument 2 ends as launched. -/
theorem W5_main_arg2 (c : Dev nD) : W5 m ρ c (Proc.devRef .tc main_arg2) = m ((c : Thread nD τ).loc main_arg2) :=
  W5_args m ρ c main_arg2 (by decide)
/-- Argument 3 ends as launched. -/
theorem W5_main_arg3 (c : Dev nD) : W5 m ρ c (Proc.devRef .tc main_arg3) = m ((c : Thread nD τ).loc main_arg3) :=
  W5_args m ρ c main_arg3 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = PhiS0 (V1 m ρ) c 0 (Nat.zero_le _) from rfl, PhiS0_zero _ c 0 _ rfl]; unfold Pipeline.ΦA
    iintro ⟨Hp, -, Hr⟩
    isplitl [Hr]; · iexact Hr
    iexact Hp
  hout c := by
    rw [Pipeline.ownSems0_none]
    have hs : (pdats m ρ 0 c).Φ (Fin.last _) ⊢ (Pipeline.ΦA spec0 c : sProp 𝕄) := hout0 (V1 m ρ) c
    unfold Pipeline.ΦA at hs
    iintro H
    ihave H := hs $$ H
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: at the compiled mesh, from any memory with zero counters, every weakly fair execution of @main terminates,
    nothing faulting, with every unscoped buffer at the last boundary's contents `W5` and every semaphore counter zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- The frame: the arguments end as launched and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨(h.1 c _ (mem_uc main_arg0 (by decide))).trans (W5_main_arg0 m ρ c),
     (h.1 c _ (mem_uc main_arg1 (by decide))).trans (W5_main_arg1 m ρ c),
     (h.1 c _ (mem_uc main_arg2 (by decide))).trans (W5_main_arg2 m ρ c),
     (h.1 c _ (mem_uc main_arg3 (by decide))).trans (W5_main_arg3 m ρ c)⟩, h.2⟩) (run_all m ρ)

end Cert.Kernel.Run

end
-- ==== Proof.KernelIdealRun.Region0.lean ====
/- Region 0 of @main (the largest-magnitude pass over dy) at any entry contents `V`: the triple of its body at each
   grid point, what the two scale outputs and the carried 16 x 1280 running maximum hold after each point, the proof
   data of its pipeline and the body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Pipeline.RegionsLoop
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 0 of @main: custom_call 0, `cc0_dy_amax` (pipeline 0), at the entry contents `V` — class R -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 18 = 0 :=
  (fun t => by
    have ht : t.val < 18 := Nat.lt_of_lt_of_eq t.isLt N_0
    have e0 : (grid0.coords t 0).val = t.val / 1 % 18 := Pipeline.Grid.coords_val t 0 (by decide) rfl
    simp only [cond0_0, e0]
    word_cmp
   : ∀ t : Fin grid0.N, cond0_0 (grid0.coords t) ↔ t.val % 18 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 18 = 17 :=
  (fun t => by
    have ht : t.val < 18 := Nat.lt_of_lt_of_eq t.isLt N_0
    have e0 : (grid0.coords t 0).val = t.val / 1 % 18 := Pipeline.Grid.coords_val t 0 (by decide) rfl
    simp only [cond0_1, k0_cond2, e0]
    word_cmp
   : ∀ t : Fin grid0.N, cond0_1 (grid0.coords t) ↔ t.val % 18 = 17)

/-! ## Where the windows are idle (the printed configuration's table `Cfg.idle`) -/

/-- Window 0 is never idle (an input). -/
theorem liveAt0_0 : ∀ t : Fin cfg0.N, cfg0.idle 0 (grid0.coords t) = false := fun _ => rfl
/-- At the points of case A the printed configuration (`Cfg.idle`) calls output 1 idle: the case stores nothing into it. -/
theorem idleAt0_1_A : ∀ t : Fin cfg0.N, cond0_0 (grid0.coords t) → ¬cond0_1 (grid0.coords t) → cfg0.idle 1 (grid0.coords t) = true := by decide +kernel
/-- At the points of case A the pipeline does not write output 1's block back. -/
theorem noFlush0_1_A : ∀ t : Fin cfg0.N, cond0_0 (grid0.coords t) → ¬cond0_1 (grid0.coords t) → (cfg0.win 1).flush t = false := by decide +kernel
/-- At the points of case B the printed configuration (`Cfg.idle`) calls output 1 idle: the case stores nothing into it. -/
theorem idleAt0_1_B : ∀ t : Fin cfg0.N, ¬cond0_0 (grid0.coords t) → ¬cond0_1 (grid0.coords t) → cfg0.idle 1 (grid0.coords t) = true := by decide +kernel
/-- At the points of case B the pipeline does not write output 1's block back. -/
theorem noFlush0_1_B : ∀ t : Fin cfg0.N, ¬cond0_0 (grid0.coords t) → ¬cond0_1 (grid0.coords t) → (cfg0.win 1).flush t = false := by decide +kernel
/-- At the points of case C the printed configuration (`Cfg.idle`) calls output 1 live: the case stores into it. -/
theorem liveAt0_1_C : ∀ t : Fin cfg0.N, ¬cond0_0 (grid0.coords t) → cond0_1 (grid0.coords t) → cfg0.idle 1 (grid0.coords t) = false := by decide +kernel
/-- At the points of case A the printed configuration (`Cfg.idle`) calls output 2 idle: the case stores nothing into it. -/
theorem idleAt0_2_A : ∀ t : Fin cfg0.N, cond0_0 (grid0.coords t) → ¬cond0_1 (grid0.coords t) → cfg0.idle 2 (grid0.coords t) = true := by decide +kernel
/-- At the points of case A the pipeline does not write output 2's block back. -/
theorem noFlush0_2_A : ∀ t : Fin cfg0.N, cond0_0 (grid0.coords t) → ¬cond0_1 (grid0.coords t) → (cfg0.win 2).flush t = false := by decide +kernel
/-- At the points of case B the printed configuration (`Cfg.idle`) calls output 2 idle: the case stores nothing into it. -/
theorem idleAt0_2_B : ∀ t : Fin cfg0.N, ¬cond0_0 (grid0.coords t) → ¬cond0_1 (grid0.coords t) → cfg0.idle 2 (grid0.coords t) = true := by decide +kernel
/-- At the points of case B the pipeline does not write output 2's block back. -/
theorem noFlush0_2_B : ∀ t : Fin cfg0.N, ¬cond0_0 (grid0.coords t) → ¬cond0_1 (grid0.coords t) → (cfg0.win 2).flush t = false := by decide +kernel
/-- At the points of case C the printed configuration (`Cfg.idle`) calls output 2 live: the case stores into it. -/
theorem liveAt0_2_C : ∀ t : Fin cfg0.N, ¬cond0_0 (grid0.coords t) → cond0_1 (grid0.coords t) → cfg0.idle 2 (grid0.coords t) = false := by decide +kernel

/-! ## The kernel body on any staging memrefs: a subtype the run finds -/

/-- One staging buffer of output window 1, through which its contents are stated (`View.read_writes_of_cover`: the
    choice does not matter). -/
abbrev VO0_1 : View sig .tc .vmem S1x1 .f32 := (Memref.whole cc0_stg1_0 : Memref sig .tc .vmem S1x1 .f32).view
/-- One staging buffer of output window 2, through which its contents are stated (`View.read_writes_of_cover`: the
    choice does not matter). -/
abbrev VO0_2 : View sig .tc .vmem S1x1 .f32 := (Memref.whole cc0_stg2_0 : Memref sig .tc .vmem S1x1 .f32).view
/-- Each window's current staging memref at point `t`, spelled as the pipeline passes it (`bodyAt0`), and its wholeness. -/
abbrev ms0_0 (t : Fin cfg0.N) : Memref sig .tc .vmem S512x1280 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
/-- The scratch operands: whole scoped buffers of the kernel's own, passed beside the windows. -/
abbrev scM0_0 : Memref sig .tc .vmem S16x1280 .bf16 := Memref.whole cc0_scratch0
/-- The scratch `arg4` the kernel carries between points, as a view: what it holds is stated through it. -/
abbrev VS0_0 : View sig .tc .vmem S16x1280 .bf16 := scM0_0.view

/-- The scoped buffers of the other region, which region 0 only hands on: each whole, at some contents. -/
def others0 (c : Dev nD) : sProp 𝕄 :=
  iprop((∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f))

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ others0 c) ∗ (∃ r, prngReg c r)) := by
  unfold Pipeline.ΦA others0; rw [scopedRest0_eq]; simp only [scM0_0, owns_whole]; try rfl

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the outputs it leaves idle (1, 2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S512x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : cond0_0 i) (hc1 : ¬cond0_1 i)
    (x0 : Vec F S512x1280 .bf16) :
    Σ' (L1 : List (View.Piece (Elt F) S1x1 .f32)), Σ' (L2 : List (View.Piece (Elt F) S1x1 .f32)), { LS0 : List (View.Piece (Elt F) S16x1280 .bf16) //
      ∀ (xi1 : Vec F S1x1 .f32) (xi2 : Vec F S1x1 .f32) (E : Set ℕ) (K : PUnit → sProp 𝕄),
        iprop(owns (c : Thread nD τ) arg1 fullShare x0 ∗ owns (c : Thread nD τ) arg2 fullShare xi1 ∗ owns (c : Thread nD τ) arg3 fullShare xi2 ∗ (∃ d, owns (c : Thread nD τ) arg4 fullShare d)
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0_dy_amax i arg1 harg1 arg2 harg2 arg3 harg3 arg4 harg4) K } := by
  refine ⟨[], [], ?_, fun xi1 xi2 E K => ?run⟩
  case run =>
    simp only [cc0_dy_amax_eq_skeleton]; unfold cc0_dy_amax_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 16: 16 of 18), WITH the
    proof that on whole staging memrefs — the inputs' at their contents, the outputs it leaves idle (1, 2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S512x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : ¬cond0_0 i) (hc1 : ¬cond0_1 i)
    (x0 : Vec F S512x1280 .bf16) (xs0 : Vec F S16x1280 .bf16) :
    Σ' (L1 : List (View.Piece (Elt F) S1x1 .f32)), Σ' (L2 : List (View.Piece (Elt F) S1x1 .f32)), { LS0 : List (View.Piece (Elt F) S16x1280 .bf16) //
      ∀ (xi1 : Vec F S1x1 .f32) (xi2 : Vec F S1x1 .f32) (E : Set ℕ) (K : PUnit → sProp 𝕄),
        iprop(owns (c : Thread nD τ) arg1 fullShare x0 ∗ owns (c : Thread nD τ) arg2 fullShare xi1 ∗ owns (c : Thread nD τ) arg3 fullShare xi2 ∗ owns (c : Thread nD τ) arg4 fullShare xs0
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0_dy_amax i arg1 harg1 arg2 harg2 arg3 harg3 arg4 harg4) K } := by
  refine ⟨[], [], ?_, fun xi1 xi2 E K => ?run⟩
  case run =>
    simp only [cc0_dy_amax_eq_skeleton]; unfold cc0_dy_amax_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

-- (the run's proof term is large: the definition's epilogue — `abstractNestedProofs` — walks it past the default budget)
set_option maxHeartbeats 1000000 in
/-- What the body's stores leave in each output's staging memref, as pieces (last first) IN CASE C (`scf.if` 0 not taken, `scf.if` 1 taken: points 17), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S512x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : ¬cond0_0 i) (hc1 : cond0_1 i)
    (x0 : Vec F S512x1280 .bf16) (xs0 : Vec F S16x1280 .bf16) :
    Σ' (L1 : List (View.Piece (Elt F) S1x1 .f32)), Σ' (L2 : List (View.Piece (Elt F) S1x1 .f32)), { LS0 : List (View.Piece (Elt F) S16x1280 .bf16) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ owns (c : Thread nD τ) arg4 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0_dy_amax i arg1 harg1 arg2 harg2 arg3 harg3 arg4 harg4) K } := by
  refine ⟨?_, ?_, ?_, fun E K => ?run⟩
  case run =>
    simp only [cc0_dy_amax_eq_skeleton]; unfold cc0_dy_amax_skel
    simp only [k0_part1_eq_skeleton, k0_part2_eq_skeleton]
    unfold owns
    iintro ⟨⟨%f0, %hf0, H0⟩, ⟨%d1, %f1, -, H1⟩, ⟨%d2, %f2, -, H2⟩, ⟨%fs0, %hfs0, HS0⟩, Hk⟩
    obtain rfl := harg1.eq_unread hf0; obtain rfl := harg4.eq_unread hfs0
    sl_exec (disch := first | sl_exact hc0 | sl_exact hc1)
    sl_step
    iapply Hk
    isplitl [H0]
    · iexists _; isplitr; · ipureintro; exact harg1.read_unread _
      iexact H0
    isplitl [H1]; · iexists _; iexact H1
    isplitl [H2]; · iexists _; iexact H2
    iexists _; iexact HS0

/-- Case A stores nothing into output 1 (the window is idle at its points and not written back there):
    no pieces — a placeholder (junk read back) that nothing consults, since at these points the window is neither
    written back nor read at the next point (Lib/Pipeline.lean "Idle points"). -/
def out0_A_1 (c : Dev nD) (i : grid0.Coords) (arg1 : Memref sig .tc .vmem S512x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : cond0_0 i) (hc1 : ¬cond0_1 i)
    (x0 : Vec F S512x1280 .bf16) : Vec F S1x1 .f32 :=
  VO0_1.read (Elt F) (VO0_1.writes (Elt F) VO0_1.junk (kernelRun0_A c i arg1 harg1 arg2 harg2 arg3 harg3 arg4 harg4 hc0 hc1 x0).1)

/-- Case A stores nothing into output 2 (the window is idle at its points and not written back there):
    no pieces — a placeholder (junk read back) that nothing consults, since at these points the window is neither
    written back nor read at the next point (Lib/Pipeline.lean "Idle points"). -/
def out0_A_2 (c : Dev nD) (i : grid0.Coords) (arg1 : Memref sig .tc .vmem S512x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : cond0_0 i) (hc1 : ¬cond0_1 i)
    (x0 : Vec F S512x1280 .bf16) : Vec F S1x1 .f32 :=
  VO0_2.read (Elt F) (VO0_2.writes (Elt F) VO0_2.junk (kernelRun0_A c i arg1 harg1 arg2 harg2 arg3 harg3 arg4 harg4 hc0 hc1 x0).2.1)

/-- Case A's pieces for scratch `arg4`, which the kernel carries between points, cover it: 2 pieces of `S16x1280` tiling it (Lib/Ring.lean `Piece.tiledL`). -/
theorem scover0_A_0 (c : Dev nD) (i : grid0.Coords) (arg1 : Memref sig .tc .vmem S512x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : cond0_0 i) (hc1 : ¬cond0_1 i)
    (x0 : Vec F S512x1280 .bf16) (y : S16x1280.Idx) :
    ∃ pc ∈ (kernelRun0_A c i arg1 harg1 arg2 harg2 arg3 harg3 arg4 harg4 hc0 hc1 x0).2.2.1, y ∈ pc.1.set :=
  View.cover_of_tiledL (kernelRun0_A c i arg1 harg1 arg2 harg2 arg3 harg3 arg4 harg4 hc0 hc1 x0).2.2.1 S16x1280.size (by sl_kernel_rfl) y

/-- What case A leaves in scratch `arg4`: its pieces read back over junk. -/
def sout0_A_0 (c : Dev nD) (i : grid0.Coords) (arg1 : Memref sig .tc .vmem S512x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : cond0_0 i) (hc1 : ¬cond0_1 i)
    (x0 : Vec F S512x1280 .bf16) : Vec F S16x1280 .bf16 :=
  VS0_0.read (Elt F) (VS0_0.writes (Elt F) VS0_0.junk (kernelRun0_A c i arg1 harg1 arg2 harg2 arg3 harg3 arg4 harg4 hc0 hc1 x0).2.2.1)

/-- Case B stores nothing into output 1 (the window is idle at its points and not written back there):
    no pieces — a placeholder (junk read back) that nothing consults, since at these points the window is neither
    written back nor read at the next point (Lib/Pipeline.lean "Idle points"). -/
def out0_B_1 (c : Dev nD) (i : grid0.Coords) (arg1 : Memref sig .tc .vmem S512x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : ¬cond0_0 i) (hc1 : ¬cond0_1 i)
    (x0 : Vec F S512x1280 .bf16) (xs0 : Vec F S16x1280 .bf16) : Vec F S1x1 .f32 :=
  VO0_1.read (Elt F) (VO0_1.writes (Elt F) VO0_1.junk (kernelRun0_B c i arg1 harg1 arg2 harg2 arg3 harg3 arg4 harg4 hc0 hc1 x0 xs0).1)

/-- Case B stores nothing into output 2 (the window is idle at its points and not written back there):
    no pieces — a placeholder (junk read back) that nothing consults, since at these points the window is neither
    written back nor read at the next point (Lib/Pipeline.lean "Idle points"). -/
def out0_B_2 (c : Dev nD) (i : grid0.Coords) (arg1 : Memref sig .tc .vmem S512x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : ¬cond0_0 i) (hc1 : ¬cond0_1 i)
    (x0 : Vec F S512x1280 .bf16) (xs0 : Vec F S16x1280 .bf16) : Vec F S1x1 .f32 :=
  VO0_2.read (Elt F) (VO0_2.writes (Elt F) VO0_2.junk (kernelRun0_B c i arg1 harg1 arg2 harg2 arg3 harg3 arg4 harg4 hc0 hc1 x0 xs0).2.1)

/-- Case B's pieces for scratch `arg4`, which the kernel carries between points, cover it: 1 piece of `S16x1280` tiling it (Lib/Ring.lean `Piece.tiledL`). -/
theorem scover0_B_0 (c : Dev nD) (i : grid0.Coords) (arg1 : Memref sig .tc .vmem S512x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : ¬cond0_0 i) (hc1 : ¬cond0_1 i)
    (x0 : Vec F S512x1280 .bf16) (xs0 : Vec F S16x1280 .bf16) (y : S16x1280.Idx) :
    ∃ pc ∈ (kernelRun0_B c i arg1 harg1 arg2 harg2 arg3 harg3 arg4 harg4 hc0 hc1 x0 xs0).2.2.1, y ∈ pc.1.set :=
  View.cover_of_tiledL (kernelRun0_B c i arg1 harg1 arg2 harg2 arg3 harg3 arg4 harg4 hc0 hc1 x0 xs0).2.2.1 S16x1280.size (by sl_kernel_rfl) y

/-- What case B leaves in scratch `arg4`: its pieces read back over junk. -/
def sout0_B_0 (c : Dev nD) (i : grid0.Coords) (arg1 : Memref sig .tc .vmem S512x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : ¬cond0_0 i) (hc1 : ¬cond0_1 i)
    (x0 : Vec F S512x1280 .bf16) (xs0 : Vec F S16x1280 .bf16) : Vec F S16x1280 .bf16 :=
  VS0_0.read (Elt F) (VS0_0.writes (Elt F) VS0_0.junk (kernelRun0_B c i arg1 harg1 arg2 harg2 arg3 harg3 arg4 harg4 hc0 hc1 x0 xs0).2.2.1)

/-- Case C's pieces for output 1 tile its block (1 store of `S1x1`, checked by the kernel's evaluation: Lib/Ring.lean `Piece.tiledL`, linear in the pieces, through a loop's `@[irreducible]` trip theorem too), so they cover it. -/
theorem cover0_C_1 (c : Dev nD) (i : grid0.Coords) (arg1 : Memref sig .tc .vmem S512x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : ¬cond0_0 i) (hc1 : cond0_1 i)
    (x0 : Vec F S512x1280 .bf16) (xs0 : Vec F S16x1280 .bf16) (y : S1x1.Idx) :
    ∃ pc ∈ (kernelRun0_C c i arg1 harg1 arg2 harg2 arg3 harg3 arg4 harg4 hc0 hc1 x0 xs0).1, y ∈ pc.1.set :=
  View.cover_of_tiledL (kernelRun0_C c i arg1 harg1 arg2 harg2 arg3 harg3 arg4 harg4 hc0 hc1 x0 xs0).1 S1x1.size (by sl_kernel_rfl) y

/-- What case C leaves in output 1's staging buffer: its pieces read back over junk. -/
def out0_C_1 (c : Dev nD) (i : grid0.Coords) (arg1 : Memref sig .tc .vmem S512x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : ¬cond0_0 i) (hc1 : cond0_1 i)
    (x0 : Vec F S512x1280 .bf16) (xs0 : Vec F S16x1280 .bf16) : Vec F S1x1 .f32 :=
  VO0_1.read (Elt F) (VO0_1.writes (Elt F) VO0_1.junk (kernelRun0_C c i arg1 harg1 arg2 harg2 arg3 harg3 arg4 harg4 hc0 hc1 x0 xs0).1)

/-- Case C's pieces for output 2 tile its block (1 store of `S1x1`, checked by the kernel's evaluation: Lib/Ring.lean `Piece.tiledL`, linear in the pieces, through a loop's `@[irreducible]` trip theorem too), so they cover it. -/
theorem cover0_C_2 (c : Dev nD) (i : grid0.Coords) (arg1 : Memref sig .tc .vmem S512x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : ¬cond0_0 i) (hc1 : cond0_1 i)
    (x0 : Vec F S512x1280 .bf16) (xs0 : Vec F S16x1280 .bf16) (y : S1x1.Idx) :
    ∃ pc ∈ (kernelRun0_C c i arg1 harg1 arg2 harg2 arg3 harg3 arg4 harg4 hc0 hc1 x0 xs0).2.1, y ∈ pc.1.set :=
  View.cover_of_tiledL (kernelRun0_C c i arg1 harg1 arg2 harg2 arg3 harg3 arg4 harg4 hc0 hc1 x0 xs0).2.1 S1x1.size (by sl_kernel_rfl) y

/-- What case C leaves in output 2's staging buffer: its pieces read back over junk. -/
def out0_C_2 (c : Dev nD) (i : grid0.Coords) (arg1 : Memref sig .tc .vmem S512x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : ¬cond0_0 i) (hc1 : cond0_1 i)
    (x0 : Vec F S512x1280 .bf16) (xs0 : Vec F S16x1280 .bf16) : Vec F S1x1 .f32 :=
  VO0_2.read (Elt F) (VO0_2.writes (Elt F) VO0_2.junk (kernelRun0_C c i arg1 harg1 arg2 harg2 arg3 harg3 arg4 harg4 hc0 hc1 x0 xs0).2.1)

/-- Case C's pieces for scratch `arg4`, which the kernel carries between points, cover it: 1 piece of `S16x1280` tiling it (Lib/Ring.lean `Piece.tiledL`). -/
theorem scover0_C_0 (c : Dev nD) (i : grid0.Coords) (arg1 : Memref sig .tc .vmem S512x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : ¬cond0_0 i) (hc1 : cond0_1 i)
    (x0 : Vec F S512x1280 .bf16) (xs0 : Vec F S16x1280 .bf16) (y : S16x1280.Idx) :
    ∃ pc ∈ (kernelRun0_C c i arg1 harg1 arg2 harg2 arg3 harg3 arg4 harg4 hc0 hc1 x0 xs0).2.2.1, y ∈ pc.1.set :=
  View.cover_of_tiledL (kernelRun0_C c i arg1 harg1 arg2 harg2 arg3 harg3 arg4 harg4 hc0 hc1 x0 xs0).2.2.1 S16x1280.size (by sl_kernel_rfl) y

/-- What case C leaves in scratch `arg4`: its pieces read back over junk. -/
def sout0_C_0 (c : Dev nD) (i : grid0.Coords) (arg1 : Memref sig .tc .vmem S512x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : ¬cond0_0 i) (hc1 : cond0_1 i)
    (x0 : Vec F S512x1280 .bf16) (xs0 : Vec F S16x1280 .bf16) : Vec F S16x1280 .bf16 :=
  VS0_0.read (Elt F) (VS0_0.writes (Elt F) VS0_0.junk (kernelRun0_C c i arg1 harg1 arg2 harg2 arg3 harg3 arg4 harg4 hc0 hc1 x0 xs0).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x1 .f32 × Vec F S1x1 .f32 × Vec F S16x1280 .bf16
  | 0, hn => (out0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 18 = 0 then
      if h1 : (n + 1) % 18 = 17 then
        False.elim (by have hN : n + 1 < 18 := lt_of_lt_of_eq hn (show cfg0.N = 18 from N_0); omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩), out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩))
    else
      if h1 : (n + 1) % 18 = 17 then
        (out0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2, out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2, out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2)

/-- `outsAt0` at a point of case A: that case's contents. -/
theorem outsAt0_A (c : Dev nD) (t : Fin cfg0.N) (h0 : t.val % 18 = 0) (h1 : ¬t.val % 18 = 17) :
    outsAt0 V c t.val t.isLt = (out0_A_1 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t), out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 18 = 0) (h1 : ¬t.val % 18 = 17) :
    outsAt0 V c t.val t.isLt = (out0_B_1 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2, out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 18 = 0) (h1 : t.val % 18 = 17) :
    outsAt0 V c t.val t.isLt = (out0_C_1 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2, out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ others0 c) ∗ (∃ r, prngReg c r))

/-- Before the first point the invariant is the entry invariant. -/
theorem PhiS0_zero (c : Dev nD) (n : ℕ) (h : n ≤ cfg0.N) (hz : n = 0) : PhiS0 V c n h = Pipeline.ΦA spec0 c := by
  subst hz; rfl

/-- After point `n` (before point `n + 1`): the carried scratch at that point's contents. -/
theorem PhiS0_succ (c : Dev nD) (n : ℕ) (hn : n < cfg0.N) :
    PhiS0 V c (n + 1) hn = iprop(iprop(owns (c : Thread nD τ) scM0_0 fullShare ((outsAt0 V c n hn).2.2) ∗ others0 c) ∗ (∃ r, prngReg c r)) := rfl

/-- Before a point that is not the first: the carried scratch at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2) ∗ others0 c) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS0`: the class's `ΦA` before the first point, then the scoped rest with the carried scratch at `outsAt0`'s component);
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2.1
  Φ t := PhiS0 V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS0_castSucc (c : Dev nD) (t : Fin cfg0.N) :
    (dat0 V c).Φ t.castSucc = PhiS0 V c t.val (Nat.le_of_lt t.isLt) := by
  dsimp only [dat0]; exact Pipeline.Dat.Φ_castSucc (PhiS0 V c) t

/-- What the body leaves, window by window (the proof data's `match` reduced by `dsimp`). -/
theorem after0_0 (c : Dev nD) (t : Fin cfg0.N) : (dat0 V c).after 0 t = iblk0 V c 0 t := by dsimp only [dat0]
/-- What the body leaves in output 1. -/
theorem after0_1 (c : Dev nD) (t : Fin cfg0.N) : (dat0 V c).after 1 t = (outsAt0 V c t.val t.isLt).1 := by dsimp only [dat0]
/-- What the body leaves in output 2. -/
theorem after0_2 (c : Dev nD) (t : Fin cfg0.N) : (dat0 V c).after 2 t = (outsAt0 V c t.val t.isLt).2.1 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks (`before0_W`); the closed forms say which case the point is in (`by_cases`), an output the case reads before covering holds what the point before left (`before0_W_κ`); so the
    run applies; the invariant hands the body the carried scratch at what the point before left (`PhiS0_pos`; at anything at the first point, `PhiS0_zero`), the other scratch buffers and the generator register at some state, and takes the carried scratch back at this point's contents (`PhiS0_succ`, by `scoverK_κ_N`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 18 := lt_of_lt_of_eq t.isLt (show cfg0.N = 18 from N_0)
  by_cases h0 : t.val % 18 = 0
  · by_cases h1 : t.val % 18 = 17
    · exfalso; omega
    · rw [show (dat0 V c).leavesExact 0 t = owns (c : Thread nD τ) (ms0_0 t) fullShare ((dat0 V c).after 0 t) from by
      unfold Dat.leavesExact; rw [liveAt0_0 t], after0_0]
      rw [Dat.leavesExact_idle (dat0 V c) 1 t (idleAt0_1_A t ((hcond0_0 t).mpr h0) (fun h => h1 ((hcond0_1 t).mp h))) (noFlush0_1_A t ((hcond0_0 t).mpr h0) (fun h => h1 ((hcond0_1 t).mp h)))]
      rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      by_cases hz : t.val = 0
      · rw [PhiS0_castSucc V c t, PhiS0_zero V c _ _ hz, PhiA0_eq]
        rw [outsAt0_A V c t h0 h1]
        unfold sout0_A_0; (try dsimp only)
        iintro ⟨⟨⟨HS0, Hoth⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t)).2.2.2 _ _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0 Hoth]
          · isplitl [HS0]; swap; · iexact Hoth
            unfold owns; iexists _; isplitr
            swap; · iexact HS0
            ipureintro; exact View.read_writes_of_cover _ _ _ _ _ (scover0_A_0 c _ _ _ _ _ _ _ _ _ _ _ _)
          iexact Hg
        isplitl [Ho]; · iexact Ho
        isplitl [H0]; · iexact H0
        isplitl [H1]; · iexists _; iexact H1
        iexists _; iexact H2
      · exfalso; have hN : t.val < 18 := lt_of_lt_of_eq t.isLt (show cfg0.N = 18 from N_0); omega
  · by_cases h1 : t.val % 18 = 17
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1_C t (fun h => h0 ((hcond0_0 t).mp h)) ((hcond0_1 t).mpr h1)], after0_1]
      rw [show (dat0 V c).leavesExact 2 t = owns (c : Thread nD τ) (ms0_2 t) fullShare ((dat0 V c).after 2 t) from by
      unfold Dat.leavesExact; rw [liveAt0_2_C t (fun h => h0 ((hcond0_0 t).mp h)) ((hcond0_1 t).mpr h1)], after0_2]
      by_cases hz : t.val = 0
      · exfalso; have hN : t.val < 18 := lt_of_lt_of_eq t.isLt (show cfg0.N = 18 from N_0); omega
      · rw [PhiS0_castSucc V c t, PhiS0_pos V c _ _ hz]
        rw [outsAt0_C V c t h0 h1]
        unfold out0_C_1 out0_C_2 sout0_C_0; (try dsimp only)
        iintro ⟨⟨⟨HS0, Hoth⟩, Hg⟩, Ho, ⟨%d0, H0⟩, ⟨%d1, H1⟩, ⟨%d2, H2⟩⟩
        iapply ((kernelRun0_C c (grid0.coords t) _ _ _ _ _ _ _ _ (fun h => h0 ((hcond0_0 t).mp h)) ((hcond0_1 t).mpr h1) (iblk0 V c 0 t) _).2.2.2 Set.univ _)
        isplitl [H0]; · iexact H0
        isplitl [H1]; · iexists _; iexact H1
        isplitl [H2]; · iexists _; iexact H2
        isplitl [HS0]; · iexact HS0
        iintro ⟨H0, ⟨%e1, H1⟩, ⟨%e2, H2⟩, ⟨%es0, HS0⟩⟩
        isplitl [HS0 Hoth Hg]
        · isplitl [HS0 Hoth]
          · isplitl [HS0]; swap; · iexact Hoth
            unfold owns; iexists _; isplitr
            swap; · iexact HS0
            ipureintro; exact View.read_writes_of_cover _ _ _ _ _ (scover0_C_0 c _ _ _ _ _ _ _ _ _ _ _ _ _)
          iexact Hg
        isplitl [Ho]; · iexact Ho
        isplitl [H0]; · iexact H0
        isplitl [H1]
        · unfold owns; iexists _; isplitr
          swap; · iexact H1
          ipureintro; exact View.read_writes_of_cover _ _ _ _ _ (cover0_C_1 c _ _ _ _ _ _ _ _ _ _ _ _ _)
        unfold owns; iexists _; isplitr
        swap; · iexact H2
        ipureintro; exact View.read_writes_of_cover _ _ _ _ _ (cover0_C_2 c _ _ _ _ _ _ _ _ _ _ _ _ _)
    · rw [show (dat0 V c).leavesExact 0 t = owns (c : Thread nD τ) (ms0_0 t) fullShare ((dat0 V c).after 0 t) from by
      unfold Dat.leavesExact; rw [liveAt0_0 t], after0_0]
      rw [Dat.leavesExact_idle (dat0 V c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      by_cases hz : t.val = 0
      · exfalso; have hN : t.val < 18 := lt_of_lt_of_eq t.isLt (show cfg0.N = 18 from N_0); omega
      · rw [PhiS0_castSucc V c t, PhiS0_pos V c _ _ hz]
        rw [outsAt0_B V c t h0 h1]
        unfold sout0_B_0; (try dsimp only)
        iintro ⟨⟨⟨HS0, Hoth⟩, Hg⟩, Ho, ⟨%d0, H0⟩, ⟨%d1, H1⟩, ⟨%d2, H2⟩⟩
        iapply ((kernelRun0_B c (grid0.coords t) _ _ _ _ _ _ _ _ (fun h => h0 ((hcond0_0 t).mp h)) (fun h => h1 ((hcond0_1 t).mp h)) (iblk0 V c 0 t) _).2.2.2 _ _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0 Hoth]
          · isplitl [HS0]; swap; · iexact Hoth
            unfold owns; iexists _; isplitr
            swap; · iexact HS0
            ipureintro; exact View.read_writes_of_cover _ _ _ _ _ (scover0_B_0 c _ _ _ _ _ _ _ _ _ _ _ _ _)
          iexact Hg
        isplitl [Ho]; · iexact Ho
        isplitl [H0]; · iexact H0
        isplitl [H1]; · iexists _; iexact H1
        iexists _; iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- What the launch hands the region (`ΦA`) is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives `ΦA` back: the carried scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hoth⟩, Hg⟩
  isplitl [HS0 Hoth]
  · isplitl [HS0]; · iexists _; iexact HS0
    iexact Hoth
  iexact Hg

/-- The same after the last point. -/
theorem hout0 (c : Dev nD) : (dat0 V c).Φ (Fin.last cfg0.N) ⊢ Pipeline.ΦA spec0 c :=
  Phi_out0 V c _ (by rw [Fin.val_last]; have : cfg0.N = 18 := N_0; omega)

end Cert.KernelIdeal.Run

end
-- ==== Proof.KernelIdealRun.Region1.lean ====
/- Region 1 of @main (the weight-gradient product) at any entry contents `V`: the triple of its body at each grid
   point, what its two outputs hold after each point, the proof data of its pipeline and the body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Pipeline.RegionsLoop
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 1 of @main: custom_call 1, `cc1_dw_matmul` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 0).val) 0#32)) 0#32) = 1#1
/-- It holds at the first point only — by arithmetic of the point. -/
theorem hcond1_0 : ∀ t : Fin cfg1.N, cond1_0 (grid1.coords t) ↔ t.val % 18 = 0 :=
  (fun t => by
    have ht : t.val < 18 := Nat.lt_of_lt_of_eq t.isLt N_1
    have e0 : (grid1.coords t 0).val = t.val / 1 % 18 := Pipeline.Grid.coords_val t 0 (by decide) rfl
    simp only [cond1_0, e0]
    word_cmp
   : ∀ t : Fin grid1.N, cond1_0 (grid1.coords t) ↔ t.val % 18 = 0)

/-- The condition of the body's `scf.if` 1 (`k1_h2`), from the grid coordinates (the skeleton's scalar
    chain substituted). -/
abbrev cond1_1 (i : grid1.Coords) : Prop := (Scalar.cmpi .ne (Scalar.extui (Scalar.cmpi .eq (BitVec.ofNat 32 (i 0).val) 17#32)) 0#32) = 1#1
/-- It holds at the last point only — by arithmetic of the point. -/
theorem hcond1_1 : ∀ t : Fin cfg1.N, cond1_1 (grid1.coords t) ↔ t.val % 18 = 17 :=
  (fun t => by
    have ht : t.val < 18 := Nat.lt_of_lt_of_eq t.isLt N_1
    have e0 : (grid1.coords t 0).val = t.val / 1 % 18 := Pipeline.Grid.coords_val t 0 (by decide) rfl
    simp only [cond1_1, e0]
    word_cmp
   : ∀ t : Fin grid1.N, cond1_1 (grid1.coords t) ↔ t.val % 18 = 17)

/-! ## The kernel body on any staging memrefs: a subtype the run finds -/

/-- One staging buffer of output window 6, through which its contents are stated (`View.read_writes_of_cover`: the
    choice does not matter). -/
abbrev VO1_6 : View sig .tc .vmem S3712x1280 .f32 := (Memref.whole cc1_stg6_0 : Memref sig .tc .vmem S3712x1280 .f32).view
/-- One staging buffer of output window 7, through which its contents are stated (`View.read_writes_of_cover`: the
    choice does not matter). -/
abbrev VO1_7 : View sig .tc .vmem S512x1280 .fp8e5m2 := (Memref.whole cc1_stg7_0 : Memref sig .tc .vmem S512x1280 .fp8e5m2).view
/-- Each window's current staging memref at point `t`, spelled as the pipeline passes it (`bodyAt1`), and its wholeness. -/
abbrev ms1_0 (t : Fin cfg1.N) : Memref sig .tc .smem S1x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .smem S1x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .smem S1x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x3712 .fp8e4m3 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x1280 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S3712x1280 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S3712x1280 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S512x1280 .fp8e5m2 := win1_7.stage (cfg1.slots t 7)
abbrev hs1_7 (t : Fin cfg1.N) : (ms1_7 t).IsWhole := hstage1_7 ((cfg1.slots t 7).cast nbuf1_7)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg1 : Memref sig .tc .smem S1x1 .f32) (harg1 : arg1.IsWhole) (arg2 : Memref sig .tc .smem S1x1 .f32) (harg2 : arg2.IsWhole) (arg3 : Memref sig .tc .smem S1x1 .f32) (harg3 : arg3.IsWhole) (arg4 : Memref sig .tc .vmem S512x3712 .fp8e4m3) (harg4 : arg4.IsWhole) (arg5 : Memref sig .tc .vmem S512x1280 .bf16) (harg5 : arg5.IsWhole) (arg6 : Memref sig .tc .vmem S3712x1280 .f32) (harg6 : arg6.IsWhole) (arg7 : Memref sig .tc .vmem S3712x1280 .f32) (harg7 : arg7.IsWhole) (arg8 : Memref sig .tc .vmem S512x1280 .fp8e5m2) (harg8 : arg8.IsWhole) (hc0 : cond1_0 i) (hc1 : ¬cond1_1 i)
    (x0 : Vec F S1x1 .f32) (x1 : Vec F S1x1 .f32) (x2 : Vec F S1x1 .f32) (x3 : Vec F S512x3712 .fp8e4m3) (x4 : Vec F S512x1280 .bf16) (x5 : Vec F S3712x1280 .f32) :
    Σ' (L6 : List (View.Piece (Elt F) S3712x1280 .f32)), { L7 : List (View.Piece (Elt F) S512x1280 .fp8e5m2) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc1_dw_matmul i arg1 harg1 arg2 harg2 arg3 harg3 arg4 harg4 arg5 harg5 arg6 harg6 arg7 harg7 arg8 harg8) K } := by
  refine ⟨?_, ?_, fun E K => ?run⟩
  case run =>
    simp only [cc1_dw_matmul_eq_skeleton]; unfold cc1_dw_matmul_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

/-- Case A's pieces for output 6 tile its block (2 stores of `S3712x1280`, checked by the kernel's evaluation: Lib/Ring.lean `Piece.tiledL`, linear in the pieces, through a loop's `@[irreducible]` trip theorem too), so they cover it. -/
theorem cover1_A_6 (c : Dev nD) (i : grid1.Coords) (arg1 : Memref sig .tc .smem S1x1 .f32) (harg1 : arg1.IsWhole) (arg2 : Memref sig .tc .smem S1x1 .f32) (harg2 : arg2.IsWhole) (arg3 : Memref sig .tc .smem S1x1 .f32) (harg3 : arg3.IsWhole) (arg4 : Memref sig .tc .vmem S512x3712 .fp8e4m3) (harg4 : arg4.IsWhole) (arg5 : Memref sig .tc .vmem S512x1280 .bf16) (harg5 : arg5.IsWhole) (arg6 : Memref sig .tc .vmem S3712x1280 .f32) (harg6 : arg6.IsWhole) (arg7 : Memref sig .tc .vmem S3712x1280 .f32) (harg7 : arg7.IsWhole) (arg8 : Memref sig .tc .vmem S512x1280 .fp8e5m2) (harg8 : arg8.IsWhole) (hc0 : cond1_0 i) (hc1 : ¬cond1_1 i)
    (x0 : Vec F S1x1 .f32) (x1 : Vec F S1x1 .f32) (x2 : Vec F S1x1 .f32) (x3 : Vec F S512x3712 .fp8e4m3) (x4 : Vec F S512x1280 .bf16) (x5 : Vec F S3712x1280 .f32) (y : S3712x1280.Idx) :
    ∃ pc ∈ (kernelRun1_A c i arg1 harg1 arg2 harg2 arg3 harg3 arg4 harg4 arg5 harg5 arg6 harg6 arg7 harg7 arg8 harg8 hc0 hc1 x0 x1 x2 x3 x4 x5).1, y ∈ pc.1.set :=
  View.cover_of_tiledL (kernelRun1_A c i arg1 harg1 arg2 harg2 arg3 harg3 arg4 harg4 arg5 harg5 arg6 harg6 arg7 harg7 arg8 harg8 hc0 hc1 x0 x1 x2 x3 x4 x5).1 S3712x1280.size (by sl_kernel_rfl) y

/-- What case A leaves in output 6's staging buffer: its pieces read back over junk. -/
def out1_A_6 (c : Dev nD) (i : grid1.Coords) (arg1 : Memref sig .tc .smem S1x1 .f32) (harg1 : arg1.IsWhole) (arg2 : Memref sig .tc .smem S1x1 .f32) (harg2 : arg2.IsWhole) (arg3 : Memref sig .tc .smem S1x1 .f32) (harg3 : arg3.IsWhole) (arg4 : Memref sig .tc .vmem S512x3712 .fp8e4m3) (harg4 : arg4.IsWhole) (arg5 : Memref sig .tc .vmem S512x1280 .bf16) (harg5 : arg5.IsWhole) (arg6 : Memref sig .tc .vmem S3712x1280 .f32) (harg6 : arg6.IsWhole) (arg7 : Memref sig .tc .vmem S3712x1280 .f32) (harg7 : arg7.IsWhole) (arg8 : Memref sig .tc .vmem S512x1280 .fp8e5m2) (harg8 : arg8.IsWhole) (hc0 : cond1_0 i) (hc1 : ¬cond1_1 i)
    (x0 : Vec F S1x1 .f32) (x1 : Vec F S1x1 .f32) (x2 : Vec F S1x1 .f32) (x3 : Vec F S512x3712 .fp8e4m3) (x4 : Vec F S512x1280 .bf16) (x5 : Vec F S3712x1280 .f32) : Vec F S3712x1280 .f32 :=
  VO1_6.read (Elt F) (VO1_6.writes (Elt F) VO1_6.junk (kernelRun1_A c i arg1 harg1 arg2 harg2 arg3 harg3 arg4 harg4 arg5 harg5 arg6 harg6 arg7 harg7 arg8 harg8 hc0 hc1 x0 x1 x2 x3 x4 x5).1)

/-- Case A's pieces for output 7 tile its block (1 store of `S512x1280`, checked by the kernel's evaluation: Lib/Ring.lean `Piece.tiledL`, linear in the pieces, through a loop's `@[irreducible]` trip theorem too), so they cover it. -/
theorem cover1_A_7 (c : Dev nD) (i : grid1.Coords) (arg1 : Memref sig .tc .smem S1x1 .f32) (harg1 : arg1.IsWhole) (arg2 : Memref sig .tc .smem S1x1 .f32) (harg2 : arg2.IsWhole) (arg3 : Memref sig .tc .smem S1x1 .f32) (harg3 : arg3.IsWhole) (arg4 : Memref sig .tc .vmem S512x3712 .fp8e4m3) (harg4 : arg4.IsWhole) (arg5 : Memref sig .tc .vmem S512x1280 .bf16) (harg5 : arg5.IsWhole) (arg6 : Memref sig .tc .vmem S3712x1280 .f32) (harg6 : arg6.IsWhole) (arg7 : Memref sig .tc .vmem S3712x1280 .f32) (harg7 : arg7.IsWhole) (arg8 : Memref sig .tc .vmem S512x1280 .fp8e5m2) (harg8 : arg8.IsWhole) (hc0 : cond1_0 i) (hc1 : ¬cond1_1 i)
    (x0 : Vec F S1x1 .f32) (x1 : Vec F S1x1 .f32) (x2 : Vec F S1x1 .f32) (x3 : Vec F S512x3712 .fp8e4m3) (x4 : Vec F S512x1280 .bf16) (x5 : Vec F S3712x1280 .f32) (y : S512x1280.Idx) :
    ∃ pc ∈ (kernelRun1_A c i arg1 harg1 arg2 harg2 arg3 harg3 arg4 harg4 arg5 harg5 arg6 harg6 arg7 harg7 arg8 harg8 hc0 hc1 x0 x1 x2 x3 x4 x5).2.1, y ∈ pc.1.set :=
  View.cover_of_tiledL (kernelRun1_A c i arg1 harg1 arg2 harg2 arg3 harg3 arg4 harg4 arg5 harg5 arg6 harg6 arg7 harg7 arg8 harg8 hc0 hc1 x0 x1 x2 x3 x4 x5).2.1 S512x1280.size (by sl_kernel_rfl) y

/-- What case A leaves in output 7's staging buffer: its pieces read back over junk. -/
def out1_A_7 (c : Dev nD) (i : grid1.Coords) (arg1 : Memref sig .tc .smem S1x1 .f32) (harg1 : arg1.IsWhole) (arg2 : Memref sig .tc .smem S1x1 .f32) (harg2 : arg2.IsWhole) (arg3 : Memref sig .tc .smem S1x1 .f32) (harg3 : arg3.IsWhole) (arg4 : Memref sig .tc .vmem S512x3712 .fp8e4m3) (harg4 : arg4.IsWhole) (arg5 : Memref sig .tc .vmem S512x1280 .bf16) (harg5 : arg5.IsWhole) (arg6 : Memref sig .tc .vmem S3712x1280 .f32) (harg6 : arg6.IsWhole) (arg7 : Memref sig .tc .vmem S3712x1280 .f32) (harg7 : arg7.IsWhole) (arg8 : Memref sig .tc .vmem S512x1280 .fp8e5m2) (harg8 : arg8.IsWhole) (hc0 : cond1_0 i) (hc1 : ¬cond1_1 i)
    (x0 : Vec F S1x1 .f32) (x1 : Vec F S1x1 .f32) (x2 : Vec F S1x1 .f32) (x3 : Vec F S512x3712 .fp8e4m3) (x4 : Vec F S512x1280 .bf16) (x5 : Vec F S3712x1280 .f32) : Vec F S512x1280 .fp8e5m2 :=
  VO1_7.read (Elt F) (VO1_7.writes (Elt F) VO1_7.junk (kernelRun1_A c i arg1 harg1 arg2 harg2 arg3 harg3 arg4 harg4 arg5 harg5 arg6 harg6 arg7 harg7 arg8 harg8 hc0 hc1 x0 x1 x2 x3 x4 x5).2.1)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 16: 16 of 18), WITH the
    proof that on whole staging memrefs — the inputs' at their contents, the outputs it reads before covering (6) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg1 : Memref sig .tc .smem S1x1 .f32) (harg1 : arg1.IsWhole) (arg2 : Memref sig .tc .smem S1x1 .f32) (harg2 : arg2.IsWhole) (arg3 : Memref sig .tc .smem S1x1 .f32) (harg3 : arg3.IsWhole) (arg4 : Memref sig .tc .vmem S512x3712 .fp8e4m3) (harg4 : arg4.IsWhole) (arg5 : Memref sig .tc .vmem S512x1280 .bf16) (harg5 : arg5.IsWhole) (arg6 : Memref sig .tc .vmem S3712x1280 .f32) (harg6 : arg6.IsWhole) (arg7 : Memref sig .tc .vmem S3712x1280 .f32) (harg7 : arg7.IsWhole) (arg8 : Memref sig .tc .vmem S512x1280 .fp8e5m2) (harg8 : arg8.IsWhole) (hc0 : ¬cond1_0 i) (hc1 : ¬cond1_1 i)
    (x0 : Vec F S1x1 .f32) (x1 : Vec F S1x1 .f32) (x2 : Vec F S1x1 .f32) (x3 : Vec F S512x3712 .fp8e4m3) (x4 : Vec F S512x1280 .bf16) (x5 : Vec F S3712x1280 .f32) (xo6 : Vec F S3712x1280 .f32) :
    Σ' (L6 : List (View.Piece (Elt F) S3712x1280 .f32)), { L7 : List (View.Piece (Elt F) S512x1280 .fp8e5m2) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xo6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc1_dw_matmul i arg1 harg1 arg2 harg2 arg3 harg3 arg4 harg4 arg5 harg5 arg6 harg6 arg7 harg7 arg8 harg8) K } := by
  refine ⟨?_, ?_, fun E K => ?run⟩
  case run =>
    simp only [cc1_dw_matmul_eq_skeleton]; unfold cc1_dw_matmul_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

/-- Case B's pieces for output 6 tile its block (1 store of `S3712x1280`, checked by the kernel's evaluation: Lib/Ring.lean `Piece.tiledL`, linear in the pieces, through a loop's `@[irreducible]` trip theorem too), so they cover it. -/
theorem cover1_B_6 (c : Dev nD) (i : grid1.Coords) (arg1 : Memref sig .tc .smem S1x1 .f32) (harg1 : arg1.IsWhole) (arg2 : Memref sig .tc .smem S1x1 .f32) (harg2 : arg2.IsWhole) (arg3 : Memref sig .tc .smem S1x1 .f32) (harg3 : arg3.IsWhole) (arg4 : Memref sig .tc .vmem S512x3712 .fp8e4m3) (harg4 : arg4.IsWhole) (arg5 : Memref sig .tc .vmem S512x1280 .bf16) (harg5 : arg5.IsWhole) (arg6 : Memref sig .tc .vmem S3712x1280 .f32) (harg6 : arg6.IsWhole) (arg7 : Memref sig .tc .vmem S3712x1280 .f32) (harg7 : arg7.IsWhole) (arg8 : Memref sig .tc .vmem S512x1280 .fp8e5m2) (harg8 : arg8.IsWhole) (hc0 : ¬cond1_0 i) (hc1 : ¬cond1_1 i)
    (x0 : Vec F S1x1 .f32) (x1 : Vec F S1x1 .f32) (x2 : Vec F S1x1 .f32) (x3 : Vec F S512x3712 .fp8e4m3) (x4 : Vec F S512x1280 .bf16) (x5 : Vec F S3712x1280 .f32) (xo6 : Vec F S3712x1280 .f32) (y : S3712x1280.Idx) :
    ∃ pc ∈ (kernelRun1_B c i arg1 harg1 arg2 harg2 arg3 harg3 arg4 harg4 arg5 harg5 arg6 harg6 arg7 harg7 arg8 harg8 hc0 hc1 x0 x1 x2 x3 x4 x5 xo6).1, y ∈ pc.1.set :=
  View.cover_of_tiledL (kernelRun1_B c i arg1 harg1 arg2 harg2 arg3 harg3 arg4 harg4 arg5 harg5 arg6 harg6 arg7 harg7 arg8 harg8 hc0 hc1 x0 x1 x2 x3 x4 x5 xo6).1 S3712x1280.size (by sl_kernel_rfl) y

/-- What case B leaves in output 6's staging buffer: its pieces read back over junk. -/
def out1_B_6 (c : Dev nD) (i : grid1.Coords) (arg1 : Memref sig .tc .smem S1x1 .f32) (harg1 : arg1.IsWhole) (arg2 : Memref sig .tc .smem S1x1 .f32) (harg2 : arg2.IsWhole) (arg3 : Memref sig .tc .smem S1x1 .f32) (harg3 : arg3.IsWhole) (arg4 : Memref sig .tc .vmem S512x3712 .fp8e4m3) (harg4 : arg4.IsWhole) (arg5 : Memref sig .tc .vmem S512x1280 .bf16) (harg5 : arg5.IsWhole) (arg6 : Memref sig .tc .vmem S3712x1280 .f32) (harg6 : arg6.IsWhole) (arg7 : Memref sig .tc .vmem S3712x1280 .f32) (harg7 : arg7.IsWhole) (arg8 : Memref sig .tc .vmem S512x1280 .fp8e5m2) (harg8 : arg8.IsWhole) (hc0 : ¬cond1_0 i) (hc1 : ¬cond1_1 i)
    (x0 : Vec F S1x1 .f32) (x1 : Vec F S1x1 .f32) (x2 : Vec F S1x1 .f32) (x3 : Vec F S512x3712 .fp8e4m3) (x4 : Vec F S512x1280 .bf16) (x5 : Vec F S3712x1280 .f32) (xo6 : Vec F S3712x1280 .f32) : Vec F S3712x1280 .f32 :=
  VO1_6.read (Elt F) (VO1_6.writes (Elt F) VO1_6.junk (kernelRun1_B c i arg1 harg1 arg2 harg2 arg3 harg3 arg4 harg4 arg5 harg5 arg6 harg6 arg7 harg7 arg8 harg8 hc0 hc1 x0 x1 x2 x3 x4 x5 xo6).1)

/-- Case B's pieces for output 7 tile its block (1 store of `S512x1280`, checked by the kernel's evaluation: Lib/Ring.lean `Piece.tiledL`, linear in the pieces, through a loop's `@[irreducible]` trip theorem too), so they cover it. -/
theorem cover1_B_7 (c : Dev nD) (i : grid1.Coords) (arg1 : Memref sig .tc .smem S1x1 .f32) (harg1 : arg1.IsWhole) (arg2 : Memref sig .tc .smem S1x1 .f32) (harg2 : arg2.IsWhole) (arg3 : Memref sig .tc .smem S1x1 .f32) (harg3 : arg3.IsWhole) (arg4 : Memref sig .tc .vmem S512x3712 .fp8e4m3) (harg4 : arg4.IsWhole) (arg5 : Memref sig .tc .vmem S512x1280 .bf16) (harg5 : arg5.IsWhole) (arg6 : Memref sig .tc .vmem S3712x1280 .f32) (harg6 : arg6.IsWhole) (arg7 : Memref sig .tc .vmem S3712x1280 .f32) (harg7 : arg7.IsWhole) (arg8 : Memref sig .tc .vmem S512x1280 .fp8e5m2) (harg8 : arg8.IsWhole) (hc0 : ¬cond1_0 i) (hc1 : ¬cond1_1 i)
    (x0 : Vec F S1x1 .f32) (x1 : Vec F S1x1 .f32) (x2 : Vec F S1x1 .f32) (x3 : Vec F S512x3712 .fp8e4m3) (x4 : Vec F S512x1280 .bf16) (x5 : Vec F S3712x1280 .f32) (xo6 : Vec F S3712x1280 .f32) (y : S512x1280.Idx) :
    ∃ pc ∈ (kernelRun1_B c i arg1 harg1 arg2 harg2 arg3 harg3 arg4 harg4 arg5 harg5 arg6 harg6 arg7 harg7 arg8 harg8 hc0 hc1 x0 x1 x2 x3 x4 x5 xo6).2.1, y ∈ pc.1.set :=
  View.cover_of_tiledL (kernelRun1_B c i arg1 harg1 arg2 harg2 arg3 harg3 arg4 harg4 arg5 harg5 arg6 harg6 arg7 harg7 arg8 harg8 hc0 hc1 x0 x1 x2 x3 x4 x5 xo6).2.1 S512x1280.size (by sl_kernel_rfl) y

/-- What case B leaves in output 7's staging buffer: its pieces read back over junk. -/
def out1_B_7 (c : Dev nD) (i : grid1.Coords) (arg1 : Memref sig .tc .smem S1x1 .f32) (harg1 : arg1.IsWhole) (arg2 : Memref sig .tc .smem S1x1 .f32) (harg2 : arg2.IsWhole) (arg3 : Memref sig .tc .smem S1x1 .f32) (harg3 : arg3.IsWhole) (arg4 : Memref sig .tc .vmem S512x3712 .fp8e4m3) (harg4 : arg4.IsWhole) (arg5 : Memref sig .tc .vmem S512x1280 .bf16) (harg5 : arg5.IsWhole) (arg6 : Memref sig .tc .vmem S3712x1280 .f32) (harg6 : arg6.IsWhole) (arg7 : Memref sig .tc .vmem S3712x1280 .f32) (harg7 : arg7.IsWhole) (arg8 : Memref sig .tc .vmem S512x1280 .fp8e5m2) (harg8 : arg8.IsWhole) (hc0 : ¬cond1_0 i) (hc1 : ¬cond1_1 i)
    (x0 : Vec F S1x1 .f32) (x1 : Vec F S1x1 .f32) (x2 : Vec F S1x1 .f32) (x3 : Vec F S512x3712 .fp8e4m3) (x4 : Vec F S512x1280 .bf16) (x5 : Vec F S3712x1280 .f32) (xo6 : Vec F S3712x1280 .f32) : Vec F S512x1280 .fp8e5m2 :=
  VO1_7.read (Elt F) (VO1_7.writes (Elt F) VO1_7.junk (kernelRun1_B c i arg1 harg1 arg2 harg2 arg3 harg3 arg4 harg4 arg5 harg5 arg6 harg6 arg7 harg7 arg8 harg8 hc0 hc1 x0 x1 x2 x3 x4 x5 xo6).2.1)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 17), WITH the
    proof that on whole staging memrefs — the inputs' at their contents, the outputs it reads before covering (6) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_C (c : Dev nD) (i : grid1.Coords) (arg1 : Memref sig .tc .smem S1x1 .f32) (harg1 : arg1.IsWhole) (arg2 : Memref sig .tc .smem S1x1 .f32) (harg2 : arg2.IsWhole) (arg3 : Memref sig .tc .smem S1x1 .f32) (harg3 : arg3.IsWhole) (arg4 : Memref sig .tc .vmem S512x3712 .fp8e4m3) (harg4 : arg4.IsWhole) (arg5 : Memref sig .tc .vmem S512x1280 .bf16) (harg5 : arg5.IsWhole) (arg6 : Memref sig .tc .vmem S3712x1280 .f32) (harg6 : arg6.IsWhole) (arg7 : Memref sig .tc .vmem S3712x1280 .f32) (harg7 : arg7.IsWhole) (arg8 : Memref sig .tc .vmem S512x1280 .fp8e5m2) (harg8 : arg8.IsWhole) (hc0 : ¬cond1_0 i) (hc1 : cond1_1 i)
    (x0 : Vec F S1x1 .f32) (x1 : Vec F S1x1 .f32) (x2 : Vec F S1x1 .f32) (x3 : Vec F S512x3712 .fp8e4m3) (x4 : Vec F S512x1280 .bf16) (x5 : Vec F S3712x1280 .f32) (xo6 : Vec F S3712x1280 .f32) :
    Σ' (L6 : List (View.Piece (Elt F) S3712x1280 .f32)), { L7 : List (View.Piece (Elt F) S512x1280 .fp8e5m2) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xo6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc1_dw_matmul i arg1 harg1 arg2 harg2 arg3 harg3 arg4 harg4 arg5 harg5 arg6 harg6 arg7 harg7 arg8 harg8) K } := by
  refine ⟨?_, ?_, fun E K => ?run⟩
  case run =>
    simp only [cc1_dw_matmul_eq_skeleton]; unfold cc1_dw_matmul_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

/-- Case C's pieces for output 6 tile its block (2 stores of `S3712x1280`, checked by the kernel's evaluation: Lib/Ring.lean `Piece.tiledL`, linear in the pieces, through a loop's `@[irreducible]` trip theorem too), so they cover it. -/
theorem cover1_C_6 (c : Dev nD) (i : grid1.Coords) (arg1 : Memref sig .tc .smem S1x1 .f32) (harg1 : arg1.IsWhole) (arg2 : Memref sig .tc .smem S1x1 .f32) (harg2 : arg2.IsWhole) (arg3 : Memref sig .tc .smem S1x1 .f32) (harg3 : arg3.IsWhole) (arg4 : Memref sig .tc .vmem S512x3712 .fp8e4m3) (harg4 : arg4.IsWhole) (arg5 : Memref sig .tc .vmem S512x1280 .bf16) (harg5 : arg5.IsWhole) (arg6 : Memref sig .tc .vmem S3712x1280 .f32) (harg6 : arg6.IsWhole) (arg7 : Memref sig .tc .vmem S3712x1280 .f32) (harg7 : arg7.IsWhole) (arg8 : Memref sig .tc .vmem S512x1280 .fp8e5m2) (harg8 : arg8.IsWhole) (hc0 : ¬cond1_0 i) (hc1 : cond1_1 i)
    (x0 : Vec F S1x1 .f32) (x1 : Vec F S1x1 .f32) (x2 : Vec F S1x1 .f32) (x3 : Vec F S512x3712 .fp8e4m3) (x4 : Vec F S512x1280 .bf16) (x5 : Vec F S3712x1280 .f32) (xo6 : Vec F S3712x1280 .f32) (y : S3712x1280.Idx) :
    ∃ pc ∈ (kernelRun1_C c i arg1 harg1 arg2 harg2 arg3 harg3 arg4 harg4 arg5 harg5 arg6 harg6 arg7 harg7 arg8 harg8 hc0 hc1 x0 x1 x2 x3 x4 x5 xo6).1, y ∈ pc.1.set :=
  View.cover_of_tiledL (kernelRun1_C c i arg1 harg1 arg2 harg2 arg3 harg3 arg4 harg4 arg5 harg5 arg6 harg6 arg7 harg7 arg8 harg8 hc0 hc1 x0 x1 x2 x3 x4 x5 xo6).1 S3712x1280.size (by sl_kernel_rfl) y

/-- What case C leaves in output 6's staging buffer: its pieces read back over junk. -/
def out1_C_6 (c : Dev nD) (i : grid1.Coords) (arg1 : Memref sig .tc .smem S1x1 .f32) (harg1 : arg1.IsWhole) (arg2 : Memref sig .tc .smem S1x1 .f32) (harg2 : arg2.IsWhole) (arg3 : Memref sig .tc .smem S1x1 .f32) (harg3 : arg3.IsWhole) (arg4 : Memref sig .tc .vmem S512x3712 .fp8e4m3) (harg4 : arg4.IsWhole) (arg5 : Memref sig .tc .vmem S512x1280 .bf16) (harg5 : arg5.IsWhole) (arg6 : Memref sig .tc .vmem S3712x1280 .f32) (harg6 : arg6.IsWhole) (arg7 : Memref sig .tc .vmem S3712x1280 .f32) (harg7 : arg7.IsWhole) (arg8 : Memref sig .tc .vmem S512x1280 .fp8e5m2) (harg8 : arg8.IsWhole) (hc0 : ¬cond1_0 i) (hc1 : cond1_1 i)
    (x0 : Vec F S1x1 .f32) (x1 : Vec F S1x1 .f32) (x2 : Vec F S1x1 .f32) (x3 : Vec F S512x3712 .fp8e4m3) (x4 : Vec F S512x1280 .bf16) (x5 : Vec F S3712x1280 .f32) (xo6 : Vec F S3712x1280 .f32) : Vec F S3712x1280 .f32 :=
  VO1_6.read (Elt F) (VO1_6.writes (Elt F) VO1_6.junk (kernelRun1_C c i arg1 harg1 arg2 harg2 arg3 harg3 arg4 harg4 arg5 harg5 arg6 harg6 arg7 harg7 arg8 harg8 hc0 hc1 x0 x1 x2 x3 x4 x5 xo6).1)

/-- Case C's pieces for output 7 tile its block (1 store of `S512x1280`, checked by the kernel's evaluation: Lib/Ring.lean `Piece.tiledL`, linear in the pieces, through a loop's `@[irreducible]` trip theorem too), so they cover it. -/
theorem cover1_C_7 (c : Dev nD) (i : grid1.Coords) (arg1 : Memref sig .tc .smem S1x1 .f32) (harg1 : arg1.IsWhole) (arg2 : Memref sig .tc .smem S1x1 .f32) (harg2 : arg2.IsWhole) (arg3 : Memref sig .tc .smem S1x1 .f32) (harg3 : arg3.IsWhole) (arg4 : Memref sig .tc .vmem S512x3712 .fp8e4m3) (harg4 : arg4.IsWhole) (arg5 : Memref sig .tc .vmem S512x1280 .bf16) (harg5 : arg5.IsWhole) (arg6 : Memref sig .tc .vmem S3712x1280 .f32) (harg6 : arg6.IsWhole) (arg7 : Memref sig .tc .vmem S3712x1280 .f32) (harg7 : arg7.IsWhole) (arg8 : Memref sig .tc .vmem S512x1280 .fp8e5m2) (harg8 : arg8.IsWhole) (hc0 : ¬cond1_0 i) (hc1 : cond1_1 i)
    (x0 : Vec F S1x1 .f32) (x1 : Vec F S1x1 .f32) (x2 : Vec F S1x1 .f32) (x3 : Vec F S512x3712 .fp8e4m3) (x4 : Vec F S512x1280 .bf16) (x5 : Vec F S3712x1280 .f32) (xo6 : Vec F S3712x1280 .f32) (y : S512x1280.Idx) :
    ∃ pc ∈ (kernelRun1_C c i arg1 harg1 arg2 harg2 arg3 harg3 arg4 harg4 arg5 harg5 arg6 harg6 arg7 harg7 arg8 harg8 hc0 hc1 x0 x1 x2 x3 x4 x5 xo6).2.1, y ∈ pc.1.set :=
  View.cover_of_tiledL (kernelRun1_C c i arg1 harg1 arg2 harg2 arg3 harg3 arg4 harg4 arg5 harg5 arg6 harg6 arg7 harg7 arg8 harg8 hc0 hc1 x0 x1 x2 x3 x4 x5 xo6).2.1 S512x1280.size (by sl_kernel_rfl) y

/-- What case C leaves in output 7's staging buffer: its pieces read back over junk. -/
def out1_C_7 (c : Dev nD) (i : grid1.Coords) (arg1 : Memref sig .tc .smem S1x1 .f32) (harg1 : arg1.IsWhole) (arg2 : Memref sig .tc .smem S1x1 .f32) (harg2 : arg2.IsWhole) (arg3 : Memref sig .tc .smem S1x1 .f32) (harg3 : arg3.IsWhole) (arg4 : Memref sig .tc .vmem S512x3712 .fp8e4m3) (harg4 : arg4.IsWhole) (arg5 : Memref sig .tc .vmem S512x1280 .bf16) (harg5 : arg5.IsWhole) (arg6 : Memref sig .tc .vmem S3712x1280 .f32) (harg6 : arg6.IsWhole) (arg7 : Memref sig .tc .vmem S3712x1280 .f32) (harg7 : arg7.IsWhole) (arg8 : Memref sig .tc .vmem S512x1280 .fp8e5m2) (harg8 : arg8.IsWhole) (hc0 : ¬cond1_0 i) (hc1 : cond1_1 i)
    (x0 : Vec F S1x1 .f32) (x1 : Vec F S1x1 .f32) (x2 : Vec F S1x1 .f32) (x3 : Vec F S512x3712 .fp8e4m3) (x4 : Vec F S512x1280 .bf16) (x5 : Vec F S3712x1280 .f32) (xo6 : Vec F S3712x1280 .f32) : Vec F S512x1280 .fp8e5m2 :=
  VO1_7.read (Elt F) (VO1_7.writes (Elt F) VO1_7.junk (kernelRun1_C c i arg1 harg1 arg2 harg2 arg3 harg3 arg4 harg4 arg5 harg5 arg6 harg6 arg7 harg7 arg8 harg8 hc0 hc1 x0 x1 x2 x3 x4 x5 xo6).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S3712x1280 .f32 × Vec F S512x1280 .fp8e5m2
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), out1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 18 = 0 then
      if h1 : (n + 1) % 18 = 17 then
        False.elim (by have hN : n + 1 < 18 := lt_of_lt_of_eq hn (show cfg1.N = 18 from N_1); omega)
      else
        (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), out1_A_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 18 = 17 then
        (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).1, out1_C_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).1)
      else
        (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).1, out1_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).1)

/-- `outsAt1` at a point of case A: that case's contents. -/
theorem outsAt1_A (c : Dev nD) (t : Fin cfg1.N) (h0 : t.val % 18 = 0) (h1 : ¬t.val % 18 = 17) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (fun h => h1 ((hcond1_1 t).mp h)) (iblk1 V c 0 t) (iblk1 V c 1 t) (iblk1 V c 2 t) (iblk1 V c 3 t) (iblk1 V c 4 t) (iblk1 V c 5 t), out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 18 = 0) (h1 : ¬t.val % 18 = 17) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).1, out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).1) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 18 = 0) (h1 : t.val % 18 = 17) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).1, out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).1) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
    | ⟨7, _⟩ => (outsAt1 V c t.val t.isLt).2
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
/-- What the body leaves in window 1. -/
theorem after1_1 (c : Dev nD) (t : Fin cfg1.N) : (dat1 V c).after 1 t = iblk1 V c 1 t := by dsimp only [dat1]
/-- What the body leaves in window 2. -/
theorem after1_2 (c : Dev nD) (t : Fin cfg1.N) : (dat1 V c).after 2 t = iblk1 V c 2 t := by dsimp only [dat1]
/-- What the body leaves in window 3. -/
theorem after1_3 (c : Dev nD) (t : Fin cfg1.N) : (dat1 V c).after 3 t = iblk1 V c 3 t := by dsimp only [dat1]
/-- What the body leaves in window 4. -/
theorem after1_4 (c : Dev nD) (t : Fin cfg1.N) : (dat1 V c).after 4 t = iblk1 V c 4 t := by dsimp only [dat1]
/-- What the body leaves in window 5. -/
theorem after1_5 (c : Dev nD) (t : Fin cfg1.N) : (dat1 V c).after 5 t = iblk1 V c 5 t := by dsimp only [dat1]
/-- What the body leaves in window 6. -/
theorem after1_6 (c : Dev nD) (t : Fin cfg1.N) : (dat1 V c).after 6 t = (outsAt1 V c t.val t.isLt).1 := by dsimp only [dat1]
/-- What the body leaves in window 7. -/
theorem after1_7 (c : Dev nD) (t : Fin cfg1.N) : (dat1 V c).after 7 t = (outsAt1 V c t.val t.isLt).2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
/-- What the body finds in window 1. -/
theorem before1_1 (c : Dev nD) (t : Fin cfg1.N) (d) : (dat1 V c).before 1 t d = iblk1 V c 1 t :=
  before1_1_of V (dat1 V c) (A_eq1 V c 1) (after1_1 V c) t d
/-- What the body finds in window 2. -/
theorem before1_2 (c : Dev nD) (t : Fin cfg1.N) (d) : (dat1 V c).before 2 t d = iblk1 V c 2 t :=
  before1_2_of V (dat1 V c) (A_eq1 V c 2) (after1_2 V c) t d
/-- What the body finds in window 3. -/
theorem before1_3 (c : Dev nD) (t : Fin cfg1.N) (d) : (dat1 V c).before 3 t d = iblk1 V c 3 t :=
  before1_3_of V (dat1 V c) (A_eq1 V c 3) (after1_3 V c) t d
/-- What the body finds in window 4. -/
theorem before1_4 (c : Dev nD) (t : Fin cfg1.N) (d) : (dat1 V c).before 4 t d = iblk1 V c 4 t :=
  before1_4_of V (dat1 V c) (A_eq1 V c 4) (after1_4 V c) t d
/-- What the body finds in window 5. -/
theorem before1_5 (c : Dev nD) (t : Fin cfg1.N) (d) : (dat1 V c).before 5 t d = iblk1 V c 5 t :=
  before1_5_of V (dat1 V c) (A_eq1 V c 5) (after1_5 V c) t d
/-- At a point of case B output 6's current staging buffer holds what the body left at the point before: the point is
    not the first, the buffer was not written back between (`flush1_6`), the window is live and uncut (Lib/Pipeline/Frame.lean
    `Dat.before_out_kept`). -/
theorem before1_6_B (c : Dev nD) (t : Fin cfg1.N) (h0 : ¬t.val % 18 = 0) (h1 : ¬t.val % 18 = 17) (d) :
    (dat1 V c).before 6 t d = (outsAt1 V c (t.val - 1) (Nat.lt_of_le_of_lt (Nat.sub_le _ _) t.isLt)).1 := by
  have hN : t.val < 18 := lt_of_lt_of_eq t.isLt (show cfg1.N = 18 from N_1)
  rw [Dat.before_out_kept _ 6 rfl t (by omega) (Bool.eq_false_iff.mpr fun h => by have := (flush1_6 _).mp h; dsimp only at this; omega)
    (fun _ => rfl) (fun _ _ => rfl)]
  dsimp only [dat1]
/-- At a point of case C output 6's current staging buffer holds what the body left at the point before: the point is
    not the first, the buffer was not written back between (`flush1_6`), the window is live and uncut (Lib/Pipeline/Frame.lean
    `Dat.before_out_kept`). -/
theorem before1_6_C (c : Dev nD) (t : Fin cfg1.N) (h0 : ¬t.val % 18 = 0) (h1 : t.val % 18 = 17) (d) :
    (dat1 V c).before 6 t d = (outsAt1 V c (t.val - 1) (Nat.lt_of_le_of_lt (Nat.sub_le _ _) t.isLt)).1 := by
  have hN : t.val < 18 := lt_of_lt_of_eq t.isLt (show cfg1.N = 18 from N_1)
  rw [Dat.before_out_kept _ 6 rfl t (by omega) (Bool.eq_false_iff.mpr fun h => by have := (flush1_6 _).mp h; dsimp only at this; omega)
    (fun _ => rfl) (fun _ _ => rfl)]
  dsimp only [dat1]

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t))

set_option maxHeartbeats 2400000 in
/-- The body at any point: the inputs' memrefs hold their blocks (`before1_W`); the closed forms say which case the point is in (`by_cases`), an output the case reads before covering holds what the point before left (`before1_W_κ`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  have hN : t.val < 18 := lt_of_lt_of_eq t.isLt (show cfg1.N = 18 from N_1)
  by_cases h0 : t.val % 18 = 0
  · by_cases h1 : t.val % 18 = 17
    · exfalso; omega
    · rw [outsAt1_A V c t h0 h1]
      unfold out1_A_6 out1_A_7; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      iintro ⟨H0, H1, H2, H3, H4, H5, ⟨%e6, H6⟩, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_A_6 c _ _ _ _ _ _ _ _ _ _ _ _ _ _ _ _ _ _ _ _ _ _ _ _ _)
      unfold owns; iexists _; isplitr
      swap; · iexact H7
      ipureintro; exact View.read_writes_of_cover _ _ _ _ _ (cover1_A_7 c _ _ _ _ _ _ _ _ _ _ _ _ _ _ _ _ _ _ _ _ _ _ _ _ _)
  · by_cases h1 : t.val % 18 = 17
    · rw [outsAt1_C V c t h0 h1]
      simp only [before1_6_C V c t h0 h1]
      unfold out1_C_6 out1_C_7; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iintro ⟨H0, H1, H2, H3, H4, H5, ⟨%e6, H6⟩, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_C_6 c _ _ _ _ _ _ _ _ _ _ _ _ _ _ _ _ _ _ _ _ _ _ _ _ _ _)
      unfold owns; iexists _; isplitr
      swap; · iexact H7
      ipureintro; exact View.read_writes_of_cover _ _ _ _ _ (cover1_C_7 c _ _ _ _ _ _ _ _ _ _ _ _ _ _ _ _ _ _ _ _ _ _ _ _ _ _)
    · rw [outsAt1_B V c t h0 h1]
      simp only [before1_6_B V c t h0 h1]
      unfold out1_B_6 out1_B_7; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iintro ⟨H0, H1, H2, H3, H4, H5, ⟨%e6, H6⟩, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_B_6 c _ _ _ _ _ _ _ _ _ _ _ _ _ _ _ _ _ _ _ _ _ _ _ _ _ _)
      unfold owns; iexists _; isplitr
      swap; · iexact H7
      ipureintro; exact View.read_writes_of_cover _ _ _ _ _ (cover1_B_7 c _ _ _ _ _ _ _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Run

end
-- ==== Proof.KernelIdealRun.Whole.lean ====
/- The run of @main: its five segments (host stretches and the two regions), the buffer contents at every boundary,
   and the frame. -/
module

public import proofs.«01_k».proof.Proof.KernelIdealRun.Region0
public import proofs.«01_k».proof.Proof.KernelIdealRun.Region1
public import Idealize.ShloMosaic.Lib.Pipeline.FrameBody
public import Idealize.ShloMosaic.Lib.Pipeline.FrameSuffix
public import Idealize.ShloMosaic.Lib.Pipeline.RegionsLoop
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
/-- The buffers host stretch 0 writes. -/
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v3]
/-- The buffers host stretch 1 writes. -/
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v5, main_v6]
/-- The buffers host stretch 2 writes. -/
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
/-- The arguments are as launched at boundary 0. -/
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- The arguments are as launched at boundary 1. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
/-- After region 0 its arrays hold what its pipeline leaves. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- Region 0 changes no other buffer. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
/-- The arguments are as launched at boundary 2. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
/-- The same, at references. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
/-- The arguments are as launched at boundary 3. -/
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
/-- After region 1 its arrays hold what its pipeline leaves. -/
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
/-- Region 1 changes no other buffer. -/
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
/-- The arguments are as launched at boundary 4. -/
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
/-- The same, at references. -/
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
/-- The arguments are as launched at boundary 5. -/
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

/-- Argument 0 ends as launched. -/
theorem W5_main_arg0 (c : Dev nD) : W5 m ρ c (Proc.devRef .tc main_arg0) = m ((c : Thread nD τ).loc main_arg0) :=
  W5_args m ρ c main_arg0 (by decide)
/-- Argument 1 ends as launched. -/
theorem W5_main_arg1 (c : Dev nD) : W5 m ρ c (Proc.devRef .tc main_arg1) = m ((c : Thread nD τ).loc main_arg1) :=
  W5_args m ρ c main_arg1 (by decide)
/-- Argument 2 ends as launched. -/
theorem W5_main_arg2 (c : Dev nD) : W5 m ρ c (Proc.devRef .tc main_arg2) = m ((c : Thread nD τ).loc main_arg2) :=
  W5_args m ρ c main_arg2 (by decide)
/-- Argument 3 ends as launched. -/
theorem W5_main_arg3 (c : Dev nD) : W5 m ρ c (Proc.devRef .tc main_arg3) = m ((c : Thread nD τ).loc main_arg3) :=
  W5_args m ρ c main_arg3 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = PhiS0 (V1 m ρ) c 0 (Nat.zero_le _) from rfl, PhiS0_zero _ c 0 _ rfl]; unfold Pipeline.ΦA
    iintro ⟨Hp, -, Hr⟩
    isplitl [Hr]; · iexact Hr
    iexact Hp
  hout c := by
    rw [Pipeline.ownSems0_none]
    have hs : (pdats m ρ 0 c).Φ (Fin.last _) ⊢ (Pipeline.ΦA spec0 c : sProp 𝕄) := hout0 (V1 m ρ) c
    unfold Pipeline.ΦA at hs
    iintro H
    ihave H := hs $$ H
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: at the compiled mesh, from any memory with zero counters, every weakly fair execution of @main terminates,
    nothing faulting, with every unscoped buffer at the last boundary's contents `W5` and every semaphore counter zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- The frame: the arguments end as launched and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨(h.1 c _ (mem_uc main_arg0 (by decide))).trans (W5_main_arg0 m ρ c),
     (h.1 c _ (mem_uc main_arg1 (by decide))).trans (W5_main_arg1 m ρ c),
     (h.1 c _ (mem_uc main_arg2 (by decide))).trans (W5_main_arg2 m ρ c),
     (h.1 c _ (mem_uc main_arg3 (by decide))).trans (W5_main_arg3 m ρ c)⟩, h.2⟩) (run_all m ρ)

end Cert.KernelIdeal.Run

end
-- ==== Proof.Exponent.lean ====
module

public import Idealize.ShloMosaic.Lib.Pipeline.ValueKit
public import Idealize.ShloMosaic.Lib.Pointwise

@[expose] public section

set_option maxRecDepth 16384

noncomputable section

/-! # The power-of-two scale, on the extended reals

The kernel finds the exponent field of `y` by a binary search over the powers of two whose bit patterns are a field
and no fraction, and makes the scale and its reciprocal by writing a field back into a pattern. The reference sums over
all exponents the one `k` with `2^(k-1) ≤ y < 2^k` and takes `2^k` and `2^(-k)`. This module proves the two equal. -/

namespace Cert.Exponent

open Idealize.ShloMosaic

/-- The number whose bit pattern has exponent field `n` and nothing else. -/
def pw (n : ℕ) : EReal := Ideal.ofBits .f32 (BitVec.ofNat 32 n <<< 23)

/-- The bits of an exponent field shifted into place have sign 0, that field, and fraction 0. -/
theorem bits_of_field : ∀ n : Fin 256,
    ((BitVec.ofNat 32 n <<< 23).extractLsb' 31 1 == 1#1) = false
    ∧ ((BitVec.ofNat 32 n <<< 23).extractLsb' 23 8).toNat = n
    ∧ ((BitVec.ofNat 32 n <<< 23).extractLsb' 0 23).toNat = 0 := by decide +kernel

/-- Field 0 is the number 0. -/
theorem pw_zero : pw 0 = 0 := Ideal.ofBits_zero_f32

/-- Field 255 is infinity. -/
theorem pw_top : pw 255 = ⊤ := by
  obtain ⟨a, b, c⟩ := bits_of_field ⟨255, by omega⟩
  simp only at a b c
  simp only [pw, Ideal.ofBits, Ideal.ieee, Nat.reduceAdd, a, b, c]
  rw [if_pos (by norm_num), if_pos trivial, if_neg (by decide)]

/-- A field between is a power of two. -/
theorem pw_coe (n : ℕ) (h0 : 1 ≤ n) (h1 : n ≤ 254) : pw n = (((2 : ℝ) ^ ((n : ℤ) - 127) : ℝ) : EReal) := by
  have hb := bits_of_field ⟨n, Nat.lt_succ_of_le (h1.trans (Nat.le_succ _))⟩
  unfold pw
  generalize hw : BitVec.ofNat 32 n <<< 23 = w at hb
  obtain ⟨a, b, c⟩ := hb
  simp only at a b c
  simp only [Ideal.ofBits, Ideal.ieee, Nat.reduceAdd, a, b, c]
  rw [if_neg (by omega), if_neg (by omega)]
  congr 1
  rw [show ((n : ℤ) - 127) = 23 + ((n : ℤ) - (2 ^ (8 - 1) - 1) - ((23 : ℕ) : ℤ)) by norm_num, zpow_add₀ (by norm_num)]
  norm_num

/-- One step of the search: the field goes up by `w` unless `y` is below the power of two that has the larger field. -/
def step (y : EReal) (w f : BitVec 32) : BitVec 32 :=
  if y < Ideal.ofBits .f32 ((f + w) <<< 23) then f else f + w

/-- The search so far has the field `n`, and the field of `y` is one of `n, …, n + w - 1`. -/
def Found (y : EReal) (f : BitVec 32) (n w : ℕ) : Prop :=
  f = BitVec.ofNat 32 n ∧ n + w ≤ 256 ∧ pw n ≤ y ∧ (n + w < 256 → y < pw (n + w))

/-- One step of the search halves the interval in which the field lies. -/
theorem found_step {y : EReal} {f : BitVec 32} {n : ℕ} (h : ℕ) (H : Found y f n (2 * h)) (h0 : 0 < h) :
    ∃ n', Found y (step y (BitVec.ofNat 32 h) f) n' h := by
  obtain ⟨rfl, hn, hl, hu⟩ := H
  have e : BitVec.ofNat 32 n + BitVec.ofNat 32 h = BitVec.ofNat 32 (n + h) := (BitVec.ofNat_add n h).symm
  by_cases hy : y < pw (n + h)
  · refine ⟨n, ?_, by omega, hl, fun _ => hy⟩
    unfold step; rw [e]; exact if_pos hy
  · refine ⟨n + h, ?_, by omega, not_lt.mp hy, fun hh => ?_⟩
    · unfold step; rw [e]; exact if_neg hy
    · rw [show n + h + h = n + 2 * h by ring] at hh ⊢; exact hu hh

/-- The eight steps. -/
def field (y : EReal) : BitVec 32 :=
  step y 1#32 (step y 2#32 (step y 4#32 (step y 8#32 (step y 16#32 (step y 32#32 (step y 64#32 (step y 128#32 0#32)))))))

/-- The search finds the field `n` with `pw n ≤ y < pw (n + 1)`. -/
theorem field_spec {y : EReal} (hy : 0 ≤ y) :
    ∃ n, field y = BitVec.ofNat 32 n ∧ n ≤ 255 ∧ pw n ≤ y ∧ (n < 255 → y < pw (n + 1)) := by
  obtain ⟨n1, H1⟩ := found_step (y := y) (f := 0#32) (n := 0) 128
    ⟨rfl, by norm_num, by rw [pw_zero]; exact hy, fun h => absurd h (by norm_num)⟩ (by norm_num)
  obtain ⟨n2, H2⟩ := found_step 64 H1 (by norm_num)
  obtain ⟨n3, H3⟩ := found_step 32 H2 (by norm_num)
  obtain ⟨n4, H4⟩ := found_step 16 H3 (by norm_num)
  obtain ⟨n5, H5⟩ := found_step 8 H4 (by norm_num)
  obtain ⟨n6, H6⟩ := found_step 4 H5 (by norm_num)
  obtain ⟨n7, H7⟩ := found_step 2 H6 (by norm_num)
  obtain ⟨n8, h1, h2, h3, h4⟩ := found_step 1 H7 (by norm_num)
  exact ⟨n8, h1, by omega, h3, fun h => h4 (by omega)⟩

/-- The kernel's exponent: 0 for a field of zero, for an infinity and for a gradient of zeros. -/
def kexp (amax y : EReal) : BitVec 32 :=
  if field y = 0#32 ∨ field y = 255#32 ∨ amax = 0 then 0#32 else field y - 126#32

/-- The kernel's scale. -/
def kscale (amax y : EReal) : EReal := Ideal.ofBits .f32 ((127#32 + kexp amax y) <<< 23)

/-- The kernel's reciprocal of the scale. -/
def kinv (amax y : EReal) : EReal := Ideal.ofBits .f32 ((127#32 - kexp amax y) <<< 23)

/-- The exponent number `j` of the reference's list: -125, …, 128. -/
def rk (j : ℕ) : EReal := (((j : ℝ) - 125 : ℝ) : EReal)

/-- The reference's exponent: the sum of those `k` of the list with `2^(k-1) ≤ y < 2^k`. -/
def rexp (y : EReal) : EReal :=
  ∑ j : Fin 254, if Ideal.exp2 (rk j - 1) ≤ y ∧ y < Ideal.exp2 (rk j) then rk j else 0

/-- 2 to an integer power, as the exponential of a real. -/
theorem exp2_int (k : ℤ) : Ideal.exp2 (((k : ℝ) : ℝ) : EReal) = (((2 : ℝ) ^ k : ℝ) : EReal) := by
  rw [Ideal.exp2_coe]; congr 1; exact Real.rpow_intCast 2 k

/-- The tried exponent as an integer. -/
theorem rk_eq (j : ℕ) : rk j = (((((j : ℤ) - 125 : ℤ)) : ℝ) : EReal) := by unfold rk; push_cast; rfl

/-- 2 to the tried exponent. -/
theorem exp2_rk (j : ℕ) : Ideal.exp2 (rk j) = (((2 : ℝ) ^ ((j : ℤ) - 125) : ℝ) : EReal) := by
  rw [rk_eq, exp2_int]

/-- 2 to the tried exponent less one. -/
theorem exp2_rk_sub (j : ℕ) : Ideal.exp2 (rk j - 1) = (((2 : ℝ) ^ ((j : ℤ) - 126) : ℝ) : EReal) := by
  rw [← exp2_int]; congr 1; unfold rk
  rw [show ((((j : ℤ) - 126 : ℤ)) : ℝ) = ((j : ℝ) - 125) - 1 by push_cast; ring]; rfl

/-- 2 to minus the tried exponent. -/
theorem exp2_neg_rk (j : ℕ) : Ideal.exp2 (0 - rk j) = (((2 : ℝ) ^ (125 - (j : ℤ)) : ℝ) : EReal) := by
  rw [← exp2_int]; congr 1; unfold rk
  rw [show (((125 - (j : ℤ) : ℤ)) : ℝ) = 0 - ((j : ℝ) - 125) by push_cast; ring]; rfl

/-- 2 to the zero is 1. -/
theorem exp2_zero : Ideal.exp2 (0 : EReal) = 1 := by
  have := exp2_int 0; simpa using this

/-- Powers of two grow with the exponent. -/
theorem two_zpow_le {a b : ℤ} (h : a ≤ b) : ((((2 : ℝ) ^ a : ℝ)) : EReal) ≤ (((2 : ℝ) ^ b : ℝ) : EReal) :=
  EReal.coe_le_coe_iff.mpr (zpow_le_zpow_right₀ (by norm_num) h)

/-- No exponent of the list fits: the sum is zero. -/
theorem rexp_none {y : EReal} (h : ∀ j : ℕ, j < 254 → ¬ (Ideal.exp2 (rk j - 1) ≤ y ∧ y < Ideal.exp2 (rk j))) :
    rexp y = 0 :=
  Finset.sum_eq_zero fun j _ => if_neg (h j j.isLt)

/-- One exponent of the list fits: the sum is that exponent. -/
theorem rexp_one {y : EReal} {j : ℕ} (hj : j < 254) (hl : Ideal.exp2 (rk j - 1) ≤ y) (hu : y < Ideal.exp2 (rk j)) :
    rexp y = rk j := by
  unfold rexp
  rw [Finset.sum_eq_single (⟨j, hj⟩ : Fin 254), if_pos ⟨hl, hu⟩]
  · rintro ⟨i, hi⟩ - hne
    refine if_neg fun ⟨h1, h2⟩ => ?_
    have hne : i ≠ j := fun h => hne (Fin.ext h)
    rw [exp2_rk, exp2_rk_sub] at *
    rcases Nat.lt_or_gt_of_ne hne with h | h
    · exact absurd (lt_of_lt_of_le h2 ((two_zpow_le (by simp only; omega)).trans hl)) (lt_irrefl _)
    · exact absurd (lt_of_lt_of_le hu ((two_zpow_le (by simp only; omega)).trans h1)) (lt_irrefl _)
  · intro h; exact absurd (Finset.mem_univ _) h

/-- THE EXPONENTS AGREE: the scale the kernel writes is `2^k` for the reference's `k`, and the reciprocal `2^(-k)`, for every
    non-negative `y` that is infinite or below `2^126` (at `2^126` and above the reciprocal is no normal number). -/
theorem kernel_eq_ref {amax y : EReal} (hy : 0 ≤ y) (hr : y < pw 253 ∨ y = ⊤) (h0 : amax = 0 → y = 0) :
    kscale amax y = Ideal.exp2 (rexp y) ∧ kinv amax y = Ideal.exp2 (0 - rexp y) := by
  have h127 : pw 127 = 1 := by rw [pw_coe 127 (by norm_num) (by norm_num)]; norm_num
  have e0 : kexp amax y = 0#32 → rexp y = 0 →
      kscale amax y = Ideal.exp2 (rexp y) ∧ kinv amax y = Ideal.exp2 (0 - rexp y) := by
    intro hk hx
    rw [hx, sub_zero, exp2_zero]
    constructor
    · unfold kscale; rw [hk]; exact h127
    · unfold kinv; rw [hk]; exact h127
  obtain ⟨n, hf, hn, hl, hu⟩ := field_spec hy
  rcases Nat.eq_zero_or_pos n with rfl | hpos
  · refine e0 (by unfold kexp; rw [if_pos (Or.inl hf)]) (rexp_none fun j hj ⟨h1, _⟩ => ?_)
    have := hu (by norm_num)
    rw [exp2_rk_sub] at h1
    rw [pw_coe 1 (by norm_num) (by norm_num)] at this
    exact absurd (lt_of_lt_of_le this ((two_zpow_le (by omega)).trans h1)) (lt_irrefl _)
  rcases eq_or_ne n 255 with rfl | hne
  · refine e0 (by unfold kexp; rw [if_pos (Or.inr (Or.inl hf))]) (rexp_none fun j hj ⟨_, h2⟩ => ?_)
    rw [pw_top, top_le_iff] at hl
    rw [hl] at h2
    exact absurd h2 not_top_lt
  have hyt : y ≠ ⊤ := by
    rintro rfl; exact absurd (hu (by omega)) not_top_lt
  have hy3 : y < pw 253 := hr.resolve_right hyt
  have hn2 : n ≤ 252 := by
    by_contra hc
    have : pw 253 ≤ pw n := by
      rw [pw_coe 253 (by norm_num) (by norm_num), pw_coe n hpos (by omega)]
      exact two_zpow_le (by push_cast; omega)
    exact absurd (lt_of_lt_of_le hy3 (this.trans hl)) (lt_irrefl _)
  have hx : rexp y = rk (n - 1) := by
    refine rexp_one (by omega) ?_ ?_
    · rw [exp2_rk_sub, show (((n - 1 : ℕ) : ℤ) - 126) = (n : ℤ) - 127 by omega, ← pw_coe n hpos (by omega)]; exact hl
    · rw [exp2_rk, show (((n - 1 : ℕ) : ℤ) - 125) = ((n + 1 : ℕ) : ℤ) - 127 by omega, ← pw_coe (n + 1) (by omega) (by omega)]
      exact hu (by omega)
  have hy0 : amax ≠ 0 := by
    intro h
    rw [h0 h] at hl
    rw [pw_coe n hpos (by omega)] at hl
    have h2 : ((2 : ℝ) ^ ((n : ℤ) - 127)) ≤ 0 := EReal.coe_le_coe_iff.mp hl
    exact absurd (zpow_pos (by norm_num : (0 : ℝ) < 2) ((n : ℤ) - 127)) (not_lt.mpr h2)
  have hk : kexp amax y = BitVec.ofNat 32 n - 126#32 := by
    unfold kexp
    rw [hf, if_neg]
    rintro (h | h | h)
    · have := congrArg BitVec.toNat h; simp at this; omega
    · have := congrArg BitVec.toNat h; simp at this; omega
    · exact hy0 h
  rw [hx, exp2_rk, exp2_neg_rk]
  constructor
  · unfold kscale; rw [hk]
    have : 127#32 + (BitVec.ofNat 32 n - 126#32) = BitVec.ofNat 32 (n + 1) := by
      apply BitVec.eq_of_toNat_eq; simp; omega
    rw [this]
    show pw (n + 1) = _
    rw [pw_coe (n + 1) (by omega) (by omega)]; congr 2; omega
  · unfold kinv; rw [hk]
    have : 127#32 - (BitVec.ofNat 32 n - 126#32) = BitVec.ofNat 32 (253 - n) := by
      apply BitVec.eq_of_toNat_eq; simp; omega
    rw [this]
    show pw (253 - n) = _
    rw [pw_coe (253 - n) (by omega) (by omega)]; congr 2; omega

end Cert.Exponent

end
-- ==== Proof.Spec.lean ====
module

public import proofs.«01_k».proof.Proof.Exponent
public import Idealize.ShloMosaic.Lib.Pipeline.ValueKit
public import Idealize.ShloMosaic.Lib.Pointwise

@[expose] public section

set_option maxRecDepth 16384

noncomputable section

/-! # What the two programs compute, entry by entry, over the extended reals -/

namespace Cert.Spec

open Idealize.ShloMosaic Cert.Exponent

/-- The largest magnitude of an array of values. -/
def amax {ι : Type*} (v : ι → EReal) : EReal := ⨆ i, max (v i) (-(v i))

/-- A magnitude is nonnegative. -/
theorem abs_nonneg (x : EReal) : 0 ≤ max x (-x) := by
  rcases le_total 0 x with h | h
  · exact h.trans (le_max_left _ _)
  · exact (EReal.neg_nonneg.mpr h).trans (le_max_right _ _)

/-- A bound on the largest magnitude is one on every magnitude. -/
theorem amax_le {ι : Type*} {v : ι → EReal} {C : EReal} : amax v ≤ C ↔ ∀ i, max (v i) (-(v i)) ≤ C := iSup_le_iff

/-- The largest magnitude is nonnegative. -/
theorem amax_nonneg {ι : Type*} [h : Nonempty ι] (v : ι → EReal) : 0 ≤ amax v :=
  (abs_nonneg _).trans (amax_le.mp le_rfl h.some)

/-- The factor 1/57344 as the binary32 number both programs multiply by. -/
def over57344 : EReal := Ideal.ofBits .f32 0x37924925#32

/-- Its value. -/
theorem over57344_eq : over57344 = ((9586981 * (2 : ℝ) ^ (-39 : ℤ) : ℝ) : EReal) := by
  simp [over57344, Ideal.ofBits, Ideal.ieee, -EReal.coe_mul]

/-- Scaling keeps a nonnegative number nonnegative. -/
theorem scaled_nonneg {A : EReal} (h : 0 ≤ A) : 0 ≤ A * over57344 := by
  refine mul_nonneg h ?_
  rw [over57344_eq]
  exact EReal.coe_nonneg.mpr (by positivity)

/-- A scaled nonnegative number is its own magnitude. -/
theorem abs_scaled {A : EReal} (h : 0 ≤ A) : max (A * over57344) (-(A * over57344)) = A * over57344 := by
  have := EReal.neg_le_neg_iff.mpr (scaled_nonneg h)
  rw [neg_zero] at this
  exact max_eq_left (this.trans (scaled_nonneg h))

/-- One gradient value times the reciprocal `s` of the scale, clipped to ±57344: its code. -/
def code (v s : EReal) : EReal :=
  min (Ideal.ofBits .f32 0x47600000#32) (max (Ideal.ofBits .f32 0xC7600000#32) (v * s))

/-- A fold of `max` starting at the least element. -/
theorem fold_le_iff {ι : Type*} [Fintype ι] [h : Nonempty ι] (b : EReal) (hb : b = ⊥) (f : ι → EReal) (C : EReal) :
    Finset.univ.fold max b f ≤ C ↔ ∀ i, f i ≤ C := by
  rw [Finset.fold_max_le, hb]
  simp

/-- The binary32 minus infinity is the bottom element. -/
theorem neg_inf_f32 : Ideal.ofBits .f32 0xFF800000#32 = ⊥ := by simp [Ideal.ofBits, Ideal.ieee]
/-- The bfloat16 minus infinity is the bottom element. -/
theorem neg_inf_bf16 : Ideal.ofBits .bf16 0xFF80#16 = ⊥ := by simp [Ideal.ofBits, Ideal.ieee]

/-- A recursion that adds a term at every point but the last and ends by `fin` of the whole sum. -/
theorem sum_then_last {ι : Type*} {N : ℕ} (L : ℕ) (hN : N = L + 1) (hL : 0 < L) (f : (n : ℕ) → n < N → ι → EReal) (term : Fin N → ι → EReal)
    (fin : ι → EReal → EReal)
    (h0 : ∀ t : Fin N, t.val % (L + 1) = 0 → ¬ t.val % (L + 1) = L → ∀ i, f t.val t.isLt i = term t i)
    (hs : ∀ t : Fin N, ¬ t.val % (L + 1) = 0 → ¬ t.val % (L + 1) = L → ∀ i,
      f t.val t.isLt i = f (t.val - 1) (Nat.lt_of_le_of_lt (Nat.sub_le _ _) t.isLt) i + term t i)
    (t : Fin N) (ht : t.val % (L + 1) = L)
    (hl : ¬ t.val % (L + 1) = 0 → ∀ i,
      f t.val t.isLt i = fin i (f (t.val - 1) (Nat.lt_of_le_of_lt (Nat.sub_le _ _) t.isLt) i + term t i))
    (i : ι) : f t.val t.isLt i = fin i (∑ p : Fin N, term p i) := by
  subst hN
  have htv : t.val = L := by
    have := t.isLt
    rwa [Nat.mod_eq_of_lt this] at ht
  have key : ∀ n (hn : n < L + 1), n < L → f n hn i = ∑ p : Fin (n + 1), term ⟨p.val, by omega⟩ i := by
    intro n hn hnL
    induction n with
    | zero =>
      rw [h0 ⟨0, hn⟩ (Nat.zero_mod _) (by rw [Nat.zero_mod]; omega) i]
      simp
    | succ n ih =>
      have hm : (n + 1) % (L + 1) = n + 1 := Nat.mod_eq_of_lt hn
      rw [hs ⟨n + 1, hn⟩ (by show ¬ (n + 1) % (L + 1) = 0; omega) (by show ¬ (n + 1) % (L + 1) = L; omega) i]
      rw [Fin.sum_univ_castSucc]
      show f n _ i + _ = _
      rw [ih (by omega) (by omega)]
      rfl
  rw [hl (by omega) i]
  refine congrArg (fin i) ?_
  have e := key (L - 1) (by omega) (by omega)
  obtain ⟨K, rfl⟩ : ∃ K, L = K + 1 := ⟨L - 1, by omega⟩
  obtain ⟨tv, htl⟩ := t
  obtain rfl : tv = K + 1 := htv
  rw [Fin.sum_univ_castSucc (n := K + 1)]
  exact congrArg₂ (· + ·) e rfl

end Cert.Spec

end
-- ==== Proof.KernelIdealValue.Region0.lean ====
module

public import proofs.«01_k».proof.Proof.KernelIdealRun.Region0
public import proofs.«01_k».proof.Proof.Spec
public import Idealize.ShloMosaic.Lib.Pipeline.ValueKit
public import Idealize.ShloMosaic.Lib.Pointwise

@[expose] public section

set_option maxRecDepth 16384

noncomputable section

namespace Cert.KernelIdeal.Value0

open Cert.KernelIdeal Cert.KernelIdeal.Gen Cert.KernelIdeal.Run Idealize.ShloMosaic Idealize.ShloMosaic.TcCoe Idealize.SL.Sem
open Idealize.ShloMosaic.Pipeline (Dat)
open Cert.Exponent Cert.Spec

/-- The running maximum starts at zeros. -/
theorem pay1_at (j : S16x1280.Idx) : k0_pay1 (F := Ideal) j = 0 := by
  pointwise [k0_pay1]

/-- One point: each entry of the running maximum takes in the 32 rows of the block that fold onto it. -/
theorem pay2_at (v3 : FVec Ideal S512x1280 .bf16) (v6 : FVec Ideal S16x1280 .bf16) (i : Fin 16) (l : Fin 1280) (C : EReal) :
    k0_pay2 (F := Ideal) v3 v6 (ix2 i l) ≤ C ↔
      v6 (ix2 i l) ≤ C ∧ ∀ q : Fin 32, max (v3 (ix2 ⟨q.val * 16 + i.val, by omega⟩ l)) (-(v3 (ix2 ⟨q.val * 16 + i.val, by omega⟩ l))) ≤ C := by
  pointwise [k0_pay2]
  rw [max_le_iff, fold_le_iff _ neg_inf_bf16]
  rfl

/-- The last point's maximum over the running maxima. -/
theorem pay3_at (s : FVec Ideal S16x1280 .bf16) (j : S1x1.Idx) (C : EReal) :
    k0_pay3 (F := Ideal) s j ≤ C ↔ ∀ p : Fin 16 × Fin 1280, s (ix2 p.1 p.2) ≤ C := by
  pointwise [k0_pay3]
  rw [fold_le_iff _ neg_inf_f32]

/-- The magnitude of the scaled maximum, at its one entry. -/
theorem pay4_at (s : FVec Ideal S16x1280 .bf16) (j : S1x1.Idx) :
    k0_pay4 (F := Ideal) s j = max (k0_pay3 (F := Ideal) s j * over57344) (-(k0_pay3 (F := Ideal) s j * over57344)) := by
  pointwise [k0_pay4]
  rfl

/-! ## The search for the exponent field -/

/-- One step of the search on a 1×1 array. -/
def stepV (y : FVec Ideal S1x1 .f32) (w : BitVec 32) (f : IVec S1x1 32) : IVec S1x1 32 :=
  select (cmpf .olt y (bitcastToFloat .f32 (shli (addi f (broadcast S1x1 w)) (broadcast S1x1 23#32)))) f (addi f (broadcast S1x1 w))

/-- One step of the search on vectors, at its entry. -/
theorem stepV_at (y : FVec Ideal S1x1 .f32) (w : BitVec 32) (f : IVec S1x1 32) (j : S1x1.Idx) :
    stepV y w f j = step (y j) w (f j) := by
  pointwise [stepV]
  rfl

/-- The whole search on a 1×1 array. -/
def fieldV (y : FVec Ideal S1x1 .f32) : IVec S1x1 32 :=
  stepV y 1#32 (stepV y 2#32 (stepV y 4#32 (stepV y 8#32 (stepV y 16#32 (stepV y 32#32 (stepV y 64#32 (stepV y 128#32
    (broadcast S1x1 0#32))))))))

/-- The whole search on vectors, at its entry. -/
theorem fieldV_at (y : FVec Ideal S1x1 .f32) (j : S1x1.Idx) : fieldV y j = field (y j) := by
  simp only [fieldV, stepV_at, field]; rfl

/-- The exponent on a 1×1 array. -/
def kexpV (A y : FVec Ideal S1x1 .f32) : IVec S1x1 32 :=
  select (ori (ori (cmpi .eq (fieldV y) (broadcast S1x1 0#32)) (cmpi .eq (fieldV y) (broadcast S1x1 255#32)))
    (cmpf .oeq A (broadcast S1x1 (Scalar.ofBits .f32 0x00000000#32)))) (broadcast S1x1 0#32) (subi (fieldV y) (broadcast S1x1 126#32))

/-- A choice on three conditions of which one suffices. -/
theorem select_or3 (p q r : Bool) (a b : BitVec 32) :
    Scalar.select (IntOp.ori (IntOp.ori (BitVec.ofBool p) (BitVec.ofBool q)) (BitVec.ofBool r)) a b
      = if p = true ∨ q = true ∨ r = true then a else b := by
  cases p <;> cases q <;> cases r <;> rfl

/-- The exponent on vectors, at its entry. -/
theorem kexpV_at (A y : FVec Ideal S1x1 .f32) (j : S1x1.Idx) : kexpV A y j = kexp (A j) (y j) := by
  pointwise [kexpV, fieldV_at]
  unfold kexp
  refine (select_or3 (field (y j) == 0#32) (field (y j) == 255#32) (decide (A j = 0)) _ _).trans ?_
  simp only [beq_iff_eq, decide_eq_true_eq]
  rfl

/-- The kernel's exponent is the search's. -/
theorem pay8_eq (s : FVec Ideal S16x1280 .bf16) :
    k0_pay8 (F := Ideal) (k0_pay3 (F := Ideal) s) (k0_pay4 (F := Ideal) s) (k0_pay5 (F := Ideal) s) (k0_pay6 (F := Ideal) s) (k0_pay7 (F := Ideal) s)
      = kexpV (k0_pay3 (F := Ideal) s) (k0_pay4 (F := Ideal) s) := rfl

/-- The stored scale. -/
theorem pay9_at (s : FVec Ideal S16x1280 .bf16) (j : S1x1.Idx) :
    k0_pay9 (F := Ideal) (k0_pay3 (F := Ideal) s) (k0_pay4 (F := Ideal) s) (k0_pay5 (F := Ideal) s) (k0_pay6 (F := Ideal) s) (k0_pay7 (F := Ideal) s) j
      = kscale (k0_pay3 (F := Ideal) s j) (k0_pay4 (F := Ideal) s j) := by
  unfold k0_pay9
  rw [pay8_eq]
  pointwise [kexpV_at]
  rfl

/-- The stored reciprocal. -/
theorem pay10_at (s : FVec Ideal S16x1280 .bf16) (j : S1x1.Idx) :
    k0_pay10 (F := Ideal) (k0_pay3 (F := Ideal) s) (k0_pay4 (F := Ideal) s) (k0_pay5 (F := Ideal) s) (k0_pay6 (F := Ideal) s) (k0_pay7 (F := Ideal) s) j
      = kinv (k0_pay3 (F := Ideal) s j) (k0_pay4 (F := Ideal) s j) := by
  unfold k0_pay10
  rw [pay8_eq]
  pointwise [kexpV_at]
  rfl

/-! ## The run of the region -/

variable (V : Dev nD → (b : Ref sig .tc) → Buf (Elt Ideal) (((0 : Dev nD) : Thread nD τ).loc b))

/-- The windows' block indices at every grid point. -/
theorem idx : ∀ t : Fin cfg0.N, win0_0.index t = ![t.val, 0] ∧ win0_1.index t = ![0, 0] ∧ win0_2.index t = ![0, 0] :=
  (by decide +kernel : ∀ t : Fin grid0.N, _)

/-- The magnitude at row `k` and column `l` of the block of point `n`. -/
def mag (c : Dev nD) (n : ℕ) (hn : n < cfg0.N) (k : Fin 512) (l : Fin 1280) : EReal :=
  max ((show FVec Ideal S512x1280 .bf16 from iblk0 V c 0 ⟨n, hn⟩) (ix2 k l)) (-((show FVec Ideal S512x1280 .bf16 from iblk0 V c 0 ⟨n, hn⟩) (ix2 k l)))

/-- The running maximum after the first point. -/
theorem first_run (c : Dev nD) (t : Fin cfg0.N) (h : t.val = 0) :
    (outsAt0 V c t.val t.isLt).2.2 = k0_pay2 (F := Ideal) (iblk0 V c 0 t) (k0_pay1 (F := Ideal)) := by
  rw [outsAt0_A V c t (by omega) (by omega)]
  funext j
  frame_out

/-- The running maximum after a point between. -/
theorem next_run (c : Dev nD) (t : Fin cfg0.N) (h0 : ¬ t.val % 18 = 0) (h1 : ¬ t.val % 18 = 17) :
    (outsAt0 V c t.val t.isLt).2.2 = k0_pay2 (F := Ideal) (iblk0 V c 0 t)
      (outsAt0 V c (t.val - 1) (Nat.lt_of_le_of_lt (Nat.sub_le _ _) t.isLt)).2.2 := by
  rw [outsAt0_B V c t h0 h1]
  funext j
  frame_out
  exact congrFun (congrArg (k0_pay2 (F := Ideal) (iblk0 V c 0 t)) (Memref.IsWhole.read_unread (Memref.isWhole_whole _) _)) j

/-- What the running maximum holds after point `n`: at each entry, the largest magnitude of the rows that fold onto it in
    the blocks so far. -/
theorem running (c : Dev nD) (n : ℕ) (hn : n < cfg0.N) (h17 : n < 17) (i : Fin 16) (l : Fin 1280) (C : EReal) :
    (show FVec Ideal S16x1280 .bf16 from (outsAt0 V c n hn).2.2) (ix2 i l) ≤ C ↔
      0 ≤ C ∧ ∀ s (hs : s ≤ n) (q : Fin 32), mag V c s (Nat.lt_of_le_of_lt hs hn) ⟨q.val * 16 + i.val, by omega⟩ l ≤ C := by
  induction n with
  | zero =>
    rw [first_run V c ⟨0, hn⟩ rfl]
    refine (pay2_at _ _ i l C).trans ?_
    rw [pay1_at]
    refine and_congr_right fun _ => ⟨fun h s hs q => ?_, fun h q => h 0 le_rfl q⟩
    obtain rfl : s = 0 := Nat.le_zero.mp hs
    exact h q
  | succ n ih =>
    rw [next_run V c ⟨n + 1, hn⟩ (by simp only; omega) (by simp only; omega)]
    refine (pay2_at _ _ i l C).trans ?_
    refine (and_congr_left fun _ => ih (Nat.lt_of_succ_lt hn) (by omega)).trans ?_
    rw [and_assoc]
    refine and_congr_right fun _ => ⟨fun h s hs q => ?_, fun h => ⟨fun s hs q => h s (hs.trans (Nat.le_succ _)) q, fun q => h (n + 1) le_rfl q⟩⟩
    rcases Nat.lt_or_ge n s with h' | h'
    · obtain rfl : s = n + 1 := by omega
      exact h.2 q
    · exact h.1 s h' q

/-- The gradient the region reads, as an array of numbers. -/
def grad (c : Dev nD) : S9216x1280.Idx → EReal := V c main_v1

/-- A block's magnitudes are the gradient's at the block's rows. -/
theorem mag_eq (c : Dev nD) (n : ℕ) (hn : n < cfg0.N) (k : Fin 512) (l : Fin 1280) (h : n * 512 + k.val < 9216) :
    mag V c n hn k l = max (grad V c (ix2 ⟨n * 512 + k.val, h⟩ l)) (-(grad V c (ix2 ⟨n * 512 + k.val, h⟩ l))) := by
  have e : (show FVec Ideal S512x1280 .bf16 from iblk0 V c 0 ⟨n, hn⟩) (ix2 k l) = grad V c (ix2 ⟨n * 512 + k.val, h⟩ l) := by
    unfold grad
    blk_point [iblk0, idx ⟨n, hn⟩]
  unfold mag
  rw [e]

/-- The running maximum with the last block taken in. -/
def last (c : Dev nD) (t : Fin cfg0.N) : FVec Ideal S16x1280 .bf16 :=
  k0_pay2 (F := Ideal) (show FVec Ideal S512x1280 .bf16 from iblk0 V c 0 t)
    (show FVec Ideal S16x1280 .bf16 from (outsAt0 V c (t.val - 1) (Nat.lt_of_le_of_lt (Nat.sub_le _ _) t.isLt)).2.2)

/-- A rank-2 index is its two coordinates. -/
theorem ix2_ext (i : S9216x1280.Idx) : i = ix2 (i 0 : Fin 9216) (i 1 : Fin 1280) := by
  funext a; fin_cases a <;> rfl

/-- The maximum the last point takes is the largest magnitude of the whole gradient. -/
theorem last_max (c : Dev nD) (t : Fin cfg0.N) (ht : t.val % 18 = 17) (j : S1x1.Idx) :
    k0_pay3 (F := Ideal) (last V c t) j = amax (grad V c) := by
  have hN : cfg0.N = 18 := N_0
  obtain ⟨tv, htl⟩ := t
  obtain rfl : tv = 17 := by simp only at ht; omega
  refine eq_of_forall_ge_iff fun C => ?_
  rw [pay3_at, amax_le]
  constructor
  · intro h i
    rw [ix2_ext i]
    obtain ⟨r, hr⟩ : ∃ r : Fin 9216, r = i 0 := ⟨_, rfl⟩
    obtain ⟨l, hl⟩ : ∃ l : Fin 1280, l = i 1 := ⟨_, rfl⟩
    rw [← hr, ← hl]
    have hp := (pay2_at _ _ _ _ _).mp (h (⟨r.val % 16, Nat.mod_lt _ (by norm_num)⟩, l))
    have key : ∀ s (hs : s < cfg0.N) (q : Fin 32) (e : r.val = s * 512 + (q.val * 16 + r.val % 16)),
        mag V c s hs ⟨q.val * 16 + r.val % 16, by omega⟩ l = max (grad V c (ix2 r l)) (-(grad V c (ix2 r l))) := by
      intro s hs q e
      have e' : (⟨s * 512 + (q.val * 16 + r.val % 16), by omega⟩ : Fin 9216) = r := Fin.ext e.symm
      refine (mag_eq V c s hs _ _ (by simp only; omega)).trans ?_
      simp only [e']
    rcases Nat.lt_or_ge (r.val / 512) 17 with h' | h'
    · have := ((running V c 16 (by omega) (by norm_num) _ _ _).mp hp.1).2 (r.val / 512) (by omega) ⟨r.val % 512 / 16, by omega⟩
      exact le_of_eq_of_le (key (r.val / 512) (by omega) ⟨r.val % 512 / 16, by omega⟩ (by simp only; omega)).symm this
    · have := hp.2 ⟨r.val % 512 / 16, by omega⟩
      exact le_of_eq_of_le (key 17 htl ⟨r.val % 512 / 16, by omega⟩ (by simp only; omega)).symm this
  · rintro h ⟨i, l⟩
    refine (pay2_at _ _ _ _ _).mpr ⟨(running V c 16 (by omega) (by norm_num) i l C).mpr
      ⟨(Cert.Spec.abs_nonneg _).trans (h (ix2 0 0)), fun s hs q => ?_⟩, fun q => ?_⟩
    · refine le_of_eq_of_le (mag_eq V c s (by omega) _ _ (by simp only; omega)) (h _)
    · exact le_of_eq_of_le (mag_eq V c 17 htl ⟨q.val * 16 + i.val, by omega⟩ l (by simp only; omega)) (h _)

/-- The scale the kernel writes for an array of largest magnitude `A`. -/
abbrev scaleOf (A : EReal) : EReal := kscale A (A * over57344)
/-- Its reciprocal. -/
abbrev invOf (A : EReal) : EReal := kinv A (A * over57344)

/-- What the last point takes the exponent of is the scaled largest magnitude. -/
theorem last_abs (c : Dev nD) (t : Fin cfg0.N) (ht : t.val % 18 = 17) (j : S1x1.Idx) :
    k0_pay4 (F := Ideal) (last V c t) j = amax (grad V c) * over57344 := by
  have : Nonempty S9216x1280.Idx := ⟨ix2 0 0⟩
  rw [pay4_at, last_max V c t ht, abs_scaled (amax_nonneg _)]

/-- The scale array after the region. -/
theorem final1 (c : Dev nD) : (dat0 V c).arrAt 1 cfg0.N = fun _ => scaleOf (amax (grad V c)) := by
  refine (dat0 V c).arrAt_eq_of_covers 1 _ (by decide +kernel) fun t hf y => ?_
  have ht := (flush0_1 t).mp hf
  have h0 : ¬ t.val % 18 = 0 := by omega
  blk_simp
  rw [after0_1, outsAt0_C V c t h0 ht]
  frame_out
  have key : ∀ S : FVec Ideal S16x1280 .bf16, S = last V c t →
      k0_pay9 (F := Ideal) (k0_pay3 (F := Ideal) S) (k0_pay4 (F := Ideal) S) (k0_pay5 (F := Ideal) S) (k0_pay6 (F := Ideal) S)
        (k0_pay7 (F := Ideal) S) y = scaleOf (amax (grad V c)) := by
    rintro S rfl
    exact (pay9_at (last V c t) y).trans (by rw [last_max V c t ht, last_abs V c t ht])
  exact key _ (congrArg (k0_pay2 (F := Ideal) (iblk0 V c 0 t)) (Memref.IsWhole.read_unread (Memref.isWhole_whole _) _))

/-- The reciprocal's array after the region. -/
theorem final2 (c : Dev nD) : (dat0 V c).arrAt 2 cfg0.N = fun _ => invOf (amax (grad V c)) := by
  refine (dat0 V c).arrAt_eq_of_covers 2 _ (by decide +kernel) fun t hf y => ?_
  have ht := (flush0_2 t).mp hf
  have h0 : ¬ t.val % 18 = 0 := by omega
  blk_simp
  rw [after0_2, outsAt0_C V c t h0 ht]
  frame_out
  have key : ∀ S : FVec Ideal S16x1280 .bf16, S = last V c t →
      k0_pay10 (F := Ideal) (k0_pay3 (F := Ideal) S) (k0_pay4 (F := Ideal) S) (k0_pay5 (F := Ideal) S) (k0_pay6 (F := Ideal) S)
        (k0_pay7 (F := Ideal) S) y = invOf (amax (grad V c)) := by
    rintro S rfl
    exact (pay10_at (last V c t) y).trans (by rw [last_max V c t ht, last_abs V c t ht])
  exact key _ (congrArg (k0_pay2 (F := Ideal) (iblk0 V c 0 t)) (Memref.IsWhole.read_unread (Memref.isWhole_whole _) _))

end Cert.KernelIdeal.Value0

end
-- ==== Proof.KernelIdealValue.Region1.lean ====
module

public import proofs.«01_k».proof.Proof.KernelIdealRun.Region1
public import proofs.«01_k».proof.Proof.Spec
public import Idealize.ShloMosaic.Lib.Pipeline.ValueKit
public import Idealize.ShloMosaic.Lib.Pointwise

@[expose] public section

set_option maxRecDepth 16384

noncomputable section

namespace Cert.KernelIdeal.Value1

open Cert.KernelIdeal Cert.KernelIdeal.Gen Cert.KernelIdeal.Run Idealize.ShloMosaic Idealize.ShloMosaic.TcCoe Idealize.SL.Sem
open Idealize.ShloMosaic.Pipeline (Dat)
open Cert.Exponent Cert.Spec

/-- The codes of the whole gradient. -/
def codes (inv : FVec Ideal S1x1 .f32) (dy : FVec Ideal S9216x1280 .bf16) : FVec Ideal S9216x1280 .fp8e5m2 :=
  fun j => code (dy j) (inv (ix2 0 0))

/-- The updated weight gradient: the accumulator plus the contraction of the activation codes with the gradient's codes over
    all 9216 tokens, times both scales. -/
def dw (xs sc inv : FVec Ideal S1x1 .f32) (x : FVec Ideal S9216x3712 .fp8e4m3) (dy : FVec Ideal S9216x1280 .bf16)
    (acc : FVec Ideal S3712x1280 .f32) : FVec Ideal S3712x1280 .f32 :=
  fun j => acc j + (∑ k : Fin 9216, x (ix2 k (j 0)) * code (dy (ix2 k (j 1))) (inv (ix2 0 0))) * (xs (ix2 0 0) * sc (ix2 0 0))

/-! ## The body's payloads at an index -/

/-- The stored codes of a block. -/
theorem pay1_at (v : Vec Ideal S512x1280 .bf16) (s : Elt Ideal .f32) (j : S512x1280.Idx) :
    k1_pay1 (F := Ideal) v s j = code (v j) s := by
  pointwise [k1_pay1, code]

/-- The accumulation starts at zero. -/
theorem pay2_at (j : S3712x1280.Idx) : k1_pay2 (F := Ideal) j = 0 := by
  pointwise [k1_pay2]

/-- A block's product is added to the running sum. -/
theorem pay3_at (v : Vec Ideal S512x1280 .bf16) (s : Elt Ideal .f32) (a : Vec Ideal S3712x1280 .f32)
    (x : Vec Ideal S512x3712 .fp8e4m3) (j : S3712x1280.Idx) :
    k1_pay3 (F := Ideal) v s a x j = a j + ∑ k : Fin 512, x (ix2 k (j 0)) * code (v (ix2 k (j 1))) s := by
  pointwise [k1_pay3, k1_pay1, code]

/-- The last block scales the sum and adds the accumulator. -/
theorem pay4_at (a v : Vec Ideal S3712x1280 .f32) (s s' : Elt Ideal .f32) (j : S3712x1280.Idx) :
    k1_pay4 (F := Ideal) a v s s' j = a j + v j * (s * s') := by
  pointwise [k1_pay4]

/-! ## The two result arrays -/

variable (V : (c : Dev nD) → (b : Ref sig .tc) → Buf (Elt Ideal) ((c : Thread nD τ).loc b))

/-- The windows' block indices at every grid point. -/
theorem idx : ∀ t : Fin cfg1.N, win1_0.index t = ![0, 0] ∧ win1_1.index t = ![0, 0] ∧ win1_2.index t = ![0, 0]
    ∧ win1_3.index t = ![t.val, 0] ∧ win1_4.index t = ![t.val, 0] ∧ win1_5.index t = ![0, 0]
    ∧ win1_6.index t = ![0, 0] ∧ win1_7.index t = ![t.val, 0] :=
  (by decide +kernel : ∀ t : Fin grid1.N, _)

/-- The codes array after the run. -/
theorem final7 (c : Dev nD) : (dat1 V c).arrAt 7 cfg1.N
    = codes (V c main_v2_1) (V c main_v1) := by
  refine (dat1 V c).arrAt_eq_of_covers 7 _ (by decide +kernel) fun t hf y => ?_
  blk_simp
  rw [after1_7]
  by_cases h0 : t.val % 18 = 0
  · rw [outsAt1_A V c t h0 (by omega)]; frame_out
    rw [pay1_at]
    pointwise [codes]
    blk_point [iblk1, idx t]
  · by_cases h1 : t.val % 18 = 17
    · rw [outsAt1_C V c t h0 h1]; frame_out
      rw [pay1_at]
      pointwise [codes]
      blk_point [iblk1, idx t]
    · rw [outsAt1_B V c t h0 h1]; frame_out
      rw [pay1_at]
      pointwise [codes]
      blk_point [iblk1, idx t]

/-- The weight gradient array after the run. -/
theorem final6 (c : Dev nD) : (dat1 V c).arrAt 6 cfg1.N
    = dw (V c main_v3) (V c main_v2_0) (V c main_v2_1) (V c main_v0) (V c main_v1) (V c main_arg3) := by
  refine (dat1 V c).arrAt_eq_of_covers 6 _ (by decide +kernel) fun t hf y => ?_
  blk_simp
  rw [after1_6, sum_then_last 17 N_1 (by omega) (fun n h => (outsAt1 V c n h).1)
    (fun t j => ∑ k : Fin 512, (show FVec Ideal S512x3712 .fp8e4m3 from iblk1 V c 3 t) (ix2 k (j 0))
      * code ((show FVec Ideal S512x1280 .bf16 from iblk1 V c 4 t) (ix2 k (j 1))) ((show FVec Ideal S1x1 .f32 from iblk1 V c 2 t) (ix2 0 0)))
    (fun j s => (show FVec Ideal S3712x1280 .f32 from iblk1 V c 5 t) j + s * ((show FVec Ideal S1x1 .f32 from iblk1 V c 0 t) (ix2 0 0)
      * (show FVec Ideal S1x1 .f32 from iblk1 V c 1 t) (ix2 0 0)))
    (fun t h0 h1 j => by rw [outsAt1_A V c t h0 h1]; frame_out; rw [pay3_at, pay2_at, zero_add]; pointwise)
    (fun t h0 h1 j => by rw [outsAt1_B V c t h0 h1]; frame_out; rw [pay3_at]; pointwise)
    t ((flush1_6 t).mp hf) (fun h0 j => by rw [outsAt1_C V c t h0 ((flush1_6 t).mp hf)]; frame_out; rw [pay4_at, pay3_at]; pointwise) y]
  pointwise [dw]
  refine Ideal.add_congr (by blk_point [iblk1, idx t]) (Ideal.mul_congr ?_ (by blk_point [iblk1, idx t]))
  refine Fin.sum_mul_add_congr (fun s k hl => ?_) (by decide)
  blk_point [iblk1, idx s, idx t]

end Cert.KernelIdeal.Value1

end
-- ==== Proof.KernelIdealValue.Whole.lean ====
module

public import proofs.«01_k».proof.Proof.KernelIdealRun.Whole
public import proofs.«01_k».proof.Proof.KernelIdealValue.Region0
public import proofs.«01_k».proof.Proof.KernelIdealValue.Region1
public import Idealize.ShloMosaic.Lib.Claim

@[expose] public section

set_option maxRecDepth 16384

noncomputable section

namespace Cert.KernelIdeal.Value

open Cert.KernelIdeal Cert.KernelIdeal.Gen Cert.KernelIdeal.Run Idealize.ShloMosaic Idealize.ShloMosaic.TcCoe Idealize.SL.Sem
open Cert.Exponent Cert.Spec Cert.KernelIdeal.Value0 Cert.KernelIdeal.Value1

variable (m : (ℓ : Loc nD τ sig) → Buf (Elt Ideal) ℓ) (ρ : Dev nD → PrngReg)

/-- The activation codes as 9216 rows. -/
def xRows (c : Dev nD) : FVec Ideal S9216x3712 .fp8e4m3 :=
  shapeCast S9216x3712 (show FVec Ideal S3x3072x3712 .fp8e4m3 from m ((c : Thread nD τ).loc main_arg0)) shapeCasts_S3x3072x3712_S9216x3712
/-- The gradient as 9216 rows. -/
def dyRows (c : Dev nD) : FVec Ideal S9216x1280 .bf16 :=
  shapeCast S9216x1280 (show FVec Ideal S3x3072x1280 .bf16 from m ((c : Thread nD τ).loc main_arg2)) shapeCasts_S3x3072x1280_S9216x1280
/-- The activation scale as a 1×1 array. -/
def xScale (c : Dev nD) : FVec Ideal S1x1 .f32 :=
  shapeCast S1x1 (show FVec Ideal S_ .f32 from m ((c : Thread nD τ).loc main_arg1)) shapeCasts_S_S1x1
/-- The largest magnitude of the gradient. -/
def A (c : Dev nD) : EReal := amax (dyRows m c)

/-! ## What the regions are entered with -/

/-- The first region finds the activation rows. -/
theorem V1_main_v0 (c : Dev nD) : V1 m ρ c main_v0 = xRows m c := by
  show StableHlo.after hostOps0 (W0 m ρ c) (Proc.devRef .tc main_v0) = _
  entry_read
  rfl

/-- The first region finds the gradient rows. -/
theorem V1_main_v1 (c : Dev nD) : V1 m ρ c main_v1 = dyRows m c := by
  show StableHlo.after hostOps0 (W0 m ρ c) (Proc.devRef .tc main_v1) = _
  entry_read
  rfl

/-- The second region finds the activation rows. -/
theorem V3_main_v0 (c : Dev nD) : V3 m ρ c main_v0 = xRows m c :=
  ((W3_of m ρ c main_v0 (by decide +kernel)).trans (W2_of m ρ c main_v0 (by decide +kernel))).trans (V1_main_v0 m ρ c)

/-- The second region finds the gradient rows. -/
theorem V3_main_v1 (c : Dev nD) : V3 m ρ c main_v1 = dyRows m c :=
  ((W3_of m ρ c main_v1 (by decide +kernel)).trans (W2_of m ρ c main_v1 (by decide +kernel))).trans (V1_main_v1 m ρ c)

/-- The second region finds the activation scale. -/
theorem V3_main_v3 (c : Dev nD) : V3 m ρ c main_v3 = xScale m c := by
  show StableHlo.after hostOps1 (W2 m ρ c) (Proc.devRef .tc main_v3) = _
  entry_read
  rw [W2_args m ρ c main_arg1 (by decide +kernel)]
  rfl

/-- The second region finds the accumulator as launched. -/
theorem V3_main_arg3 (c : Dev nD) : V3 m ρ c main_arg3 = m ((c : Thread nD τ).loc main_arg3) :=
  W3_args m ρ c main_arg3 (by decide +kernel)

/-- The first region's gradient is the gradient rows. -/
theorem grad_eq (c : Dev nD) : grad (V1 m ρ) c = dyRows m c := V1_main_v1 m ρ c

/-- The first region leaves the scale. -/
theorem W2_main_v2_0 (c : Dev nD) : W2 m ρ c main_v2_0 = fun _ => scaleOf (A m c) := by
  have h := (W2_arr m ρ c 1).trans (final1 (V1 m ρ) c)
  rw [grad_eq] at h
  exact h

/-- The first region leaves the reciprocal. -/
theorem W2_main_v2_1 (c : Dev nD) : W2 m ρ c main_v2_1 = fun _ => invOf (A m c) := by
  have h := (W2_arr m ρ c 2).trans (final2 (V1 m ρ) c)
  rw [grad_eq] at h
  exact h

/-- The second region finds the scale. -/
theorem V3_main_v2_0 (c : Dev nD) : V3 m ρ c main_v2_0 = fun _ => scaleOf (A m c) :=
  (W3_of m ρ c main_v2_0 (by decide +kernel)).trans (W2_main_v2_0 m ρ c)

/-- The second region finds the reciprocal. -/
theorem V3_main_v2_1 (c : Dev nD) : V3 m ρ c main_v2_1 = fun _ => invOf (A m c) :=
  (W3_of m ρ c main_v2_1 (by decide +kernel)).trans (W2_main_v2_1 m ρ c)

/-! ## The three results -/

/-- The updated weight gradient. -/
def dwNew (c : Dev nD) : FVec Ideal S3712x1280 .f32 :=
  dw (xScale m c) (fun _ => scaleOf (A m c)) (fun _ => invOf (A m c)) (xRows m c) (dyRows m c)
    (show FVec Ideal S3712x1280 .f32 from m ((c : Thread nD τ).loc main_arg3))
/-- The gradient's codes. -/
def dyCodes (c : Dev nD) : FVec Ideal S3x3072x1280 .fp8e5m2 :=
  shapeCast S3x3072x1280 (codes (fun _ => invOf (A m c)) (dyRows m c)) shapeCasts_S9216x1280_S3x3072x1280
/-- The gradient's scale. -/
def dyScale (c : Dev nD) : FVec Ideal S_ .f32 :=
  shapeCast S_ (show FVec Ideal S1x1 .f32 from fun _ => scaleOf (A m c)) shapeCasts_S1x1_S_

/-- The weight gradient at the end. -/
theorem W5_main_v4_0 (c : Dev nD) : W5 m ρ c main_v4_0 = dwNew m c := by
  have h := ((W5_of m ρ c main_v4_0 (by decide +kernel)).trans (W4_arr m ρ c 6)).trans (final6 (V3 m ρ) c)
  rw [V3_main_v0, V3_main_v1, V3_main_v3, V3_main_arg3, V3_main_v2_0, V3_main_v2_1] at h
  exact h

/-- The codes after the second region. -/
theorem W4_main_v4_1 (c : Dev nD) : W4 m ρ c main_v4_1 = codes (fun _ => invOf (A m c)) (dyRows m c) := by
  have h := (W4_arr m ρ c 7).trans (final7 (V3 m ρ) c)
  rw [V3_main_v1, V3_main_v2_1] at h
  exact h

/-- The scale after the second region. -/
theorem W4_main_v2_0 (c : Dev nD) : W4 m ρ c main_v2_0 = fun _ => scaleOf (A m c) :=
  (W4_of m ρ c main_v2_0 (by decide +kernel)).trans (V3_main_v2_0 m ρ c)

/-- The reshaped codes at the end. -/
theorem W5_main_v5 (c : Dev nD) : W5 m ρ c main_v5 = dyCodes m c := by
  show StableHlo.after hostOps2 (W4 m ρ c) (Proc.devRef .tc main_v5) = _
  entry_read
  rw [W4_main_v4_1]
  rfl

/-- The reshaped scale at the end. -/
theorem W5_main_v6 (c : Dev nD) : W5 m ρ c main_v6 = dyScale m c := by
  show StableHlo.after hostOps2 (W4 m ρ c) (Proc.devRef .tc main_v6) = _
  entry_read
  rw [W4_main_v2_0]
  rfl

/-- THE KERNEL'S VALUE: every run ends with the three results at `dwNew`, `dyCodes` and `dyScale`, the arguments unchanged. -/
theorem value : θ_run defs (onTc (τ := τ) (main (F := Ideal))) ⟨m, fun _ => 0, ρ⟩ (fun r => ∀ c : Dev nD,
      r.2.mem ((c.tc : Thread nD τ).loc main_v4_0) = dwNew m c
      ∧ r.2.mem ((c.tc : Thread nD τ).loc main_v5) = dyCodes m c
      ∧ r.2.mem ((c.tc : Thread nD τ).loc main_v6) = dyScale m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (run_all m ρ)
  have g := h.1 c
  exact ⟨(g _ (mem_uc main_v4_0 (by decide +kernel))).trans (W5_main_v4_0 m ρ c),
    (g _ (mem_uc main_v5 (by decide +kernel))).trans (W5_main_v5 m ρ c),
    (g _ (mem_uc main_v6 (by decide +kernel))).trans (W5_main_v6 m ρ c),
    (g _ (mem_uc main_arg0 (by decide +kernel))).trans (W5_main_arg0 m ρ c),
    (g _ (mem_uc main_arg1 (by decide +kernel))).trans (W5_main_arg1 m ρ c),
    (g _ (mem_uc main_arg2 (by decide +kernel))).trans (W5_main_arg2 m ρ c),
    (g _ (mem_uc main_arg3 (by decide +kernel))).trans (W5_main_arg3 m ρ c)⟩

end Cert.KernelIdeal.Value

end
-- ==== Proof.RefIdealValue.Payloads.lean ====
module

public import proofs.«01_k».proof.Proof.Gen.RefIdeal.Frame
public import proofs.«01_k».proof.Proof.Spec
public import Idealize.ShloMosaic.Lib.Pipeline.ValueKit
public import Idealize.ShloMosaic.Lib.Pointwise

@[expose] public section

set_option maxRecDepth 16384

noncomputable section

/-! # The reference's one body, entry by entry -/

namespace Cert.RefIdeal.Payloads

open Cert.RefIdeal Cert.RefIdeal.Gen Idealize.ShloMosaic Idealize.ShloMosaic.TcCoe Idealize.SL.Sem
open Cert.Exponent Cert.Spec

/-- The reference's maximum is the largest magnitude. -/
theorem fold_eq (v0 : FVec Ideal S9216x1280 .bf16) :
    Finset.fold max (Ideal.ofBits .f32 0xFF800000#32)
      (fun x : Fin 9216 × Fin 1280 => (FloatOps.absf (F := Ideal) (φ := .f32) (v0 (ix2 x.1 x.2)) : EReal)) Finset.univ = amax v0 := by
  refine eq_of_forall_ge_iff fun C => ?_
  rw [fold_le_iff _ neg_inf_f32, amax_le]
  exact ⟨fun h i => by rw [show i = ix2 (i 0 : Fin 9216) (i 1 : Fin 1280) from by funext a; fin_cases a <;> rfl]; exact h (i 0, i 1), fun h p => h _⟩

/-- The exponents the reference tries are -125, …, 128. -/
theorem ks_eq (k : Fin 254) : (FloatOps.sitofp (F := Ideal) .f32 (IntOp.addi (BitVec.ofNat 32 k.val) 4294967171#32) : EReal) = rk k.val := by
  have e : ∀ k : Fin 254, (IntOp.addi (BitVec.ofNat 32 k.val) 4294967171#32).toInt = (k.val : ℤ) - 125 := by decide +kernel
  show ((((IntOp.addi (BitVec.ofNat 32 k.val) 4294967171#32).toInt : ℤ) : ℝ) : EReal) = _
  rw [e, rk_eq]

/-- A choice on two conditions taken together. -/
theorem select_and (p q : Prop) [Decidable p] [Decidable q] (a b : EReal) :
    Scalar.select (IntOp.andi (BitVec.ofBool (decide p)) (BitVec.ofBool (decide q))) a b = if p ∧ q then a else b := by
  by_cases hp : p <;> by_cases hq : q <;> simp [Scalar.select, IntOp.andi, hp, hq]

/-- The reference's exponent. -/
theorem pay3_at (v0 : FVec Ideal S9216x1280 .bf16) (j : S1x1.Idx) :
    k0_pay3 (F := Ideal) v0 j = rexp (amax v0 * over57344) := by
  pointwise [k0_pay3, k0_pay2]
  unfold rexp
  refine Finset.sum_congr rfl fun k _ => ?_
  refine (select_and _ _ _ _).trans ?_
  rw [fold_eq, ks_eq]
  rfl

/-- The reference's scale. -/
theorem pay4_at (v0 : FVec Ideal S9216x1280 .bf16) (j : S1x1.Idx) :
    k0_pay4 (F := Ideal) v0 j = Ideal.exp2 (rexp (amax v0 * over57344)) := by
  pointwise [k0_pay4, pay3_at]
  rfl

/-- The codes of a gradient at a given exponent: the body's lines after the exponent. -/
def codesAt (v0 : FVec Ideal S9216x1280 .bf16) (E : FVec Ideal S1x1 .f32) : FVec Ideal S9216x1280 .fp8e5m2 :=
  truncf .fp8e5m2 (minimumf (broadcast S9216x1280 (Scalar.ofBits .f32 0x47600000#32)) (maximumf (broadcast S9216x1280 (Scalar.ofBits .f32 0xC7600000#32))
    (mulf (k0_pay2 v0) (broadcastTo S9216x1280 (exp2 (subf (broadcast S1x1 (Scalar.ofBits .f32 0x00000000#32)) E)) broadcasts_S1x1_S9216x1280)))) bitsLt_fp8e5m2_f32

/-- Those codes, entry by entry. -/
theorem codesAt_at (v0 : FVec Ideal S9216x1280 .bf16) (E : FVec Ideal S1x1 .f32) (j : S9216x1280.Idx) :
    codesAt v0 E j = code (v0 j) (Ideal.exp2 (0 - E (ix2 0 0))) := by
  pointwise [codesAt, k0_pay2, code]
  rfl

/-- The body's codes are those at its exponent. -/
theorem pay5_eq (v0 : FVec Ideal S9216x1280 .bf16) : k0_pay5 (F := Ideal) v0 = codesAt v0 (k0_pay3 v0) := by
  unfold k0_pay5 codesAt
  rfl

/-- The reference's codes. -/
theorem pay5_at (v0 : FVec Ideal S9216x1280 .bf16) (j : S9216x1280.Idx) :
    k0_pay5 (F := Ideal) v0 j = code (v0 j) (Ideal.exp2 (0 - rexp (amax v0 * over57344))) :=
  (congrFun (pay5_eq v0) j).trans ((codesAt_at v0 _ j).trans (congrArg (fun e => code (v0 j) (Ideal.exp2 (0 - e))) (pay3_at v0 _)))

/-- The reference's product of the codes. -/
theorem pay6_at (v0 : FVec Ideal S9216x1280 .bf16) (x : FVec Ideal S9216x3712 .fp8e4m3) (j : S3712x1280.Idx) :
    k0_pay6 (F := Ideal) v0 x j
      = ∑ k : Fin 9216, x (ix2 k (j 0)) * code (v0 (ix2 k (j 1))) (Ideal.exp2 (0 - rexp (amax v0 * over57344))) := by
  pointwise [k0_pay6, pay5_at]

/-- The reference's weight gradient. -/
theorem pay1_at (s : FVec Ideal S1x1 .f32) (p a : FVec Ideal S3712x1280 .f32) (xs : FVec Ideal S1x1 .f32) (j : S3712x1280.Idx) :
    k0_pay1 (F := Ideal) s p a xs j = a j + p j * (xs (ix2 0 0) * s (ix2 0 0)) := by
  pointwise [k0_pay1]

end Cert.RefIdeal.Payloads

end
-- ==== Proof.RefIdealValue.Whole.lean ====
module

public import proofs.«01_k».proof.Proof.RefIdealValue.Payloads
public import Idealize.ShloMosaic.Lib.Claim

@[expose] public section

set_option maxRecDepth 16384

noncomputable section

/-! # What the reference ends with -/

namespace Cert.RefIdeal.Value

open Cert.RefIdeal Cert.RefIdeal.Gen Cert.RefIdeal.Payloads Idealize.ShloMosaic Idealize.ShloMosaic.TcCoe Idealize.SL.Sem
open Idealize.ShloMosaic.Pipeline (Dat)
open Cert.Exponent Cert.Spec

variable (m : (ℓ : Loc nD τ sig) → Buf (Elt Ideal) ℓ) (ρ : Dev nD → PrngReg)

/-- The activation codes as 9216 rows. -/
def xRows (c : Dev nD) : FVec Ideal S9216x3712 .fp8e4m3 :=
  shapeCast S9216x3712 (show FVec Ideal S3x3072x3712 .fp8e4m3 from m ((c : Thread nD τ).loc main_arg0)) shapeCasts_S3x3072x3712_S9216x3712
/-- The gradient as 9216 rows. -/
def dyRows (c : Dev nD) : FVec Ideal S9216x1280 .bf16 :=
  shapeCast S9216x1280 (show FVec Ideal S3x3072x1280 .bf16 from m ((c : Thread nD τ).loc main_arg2)) shapeCasts_S3x3072x1280_S9216x1280
/-- The activation scale as a 1×1 array. -/
def xScale (c : Dev nD) : FVec Ideal S1x1 .f32 :=
  shapeCast S1x1 (show FVec Ideal S_ .f32 from m ((c : Thread nD τ).loc main_arg1)) shapeCasts_S_S1x1

/-- The gradient's exponent. -/
def E (c : Dev nD) : EReal := rexp (amax (dyRows m c) * over57344)

/-- The codes of all rows. -/
def codesRows (c : Dev nD) : FVec Ideal S9216x1280 .fp8e5m2 := fun j => code (dyRows m c j) (Ideal.exp2 (0 - E m c))

/-- The updated weight gradient. -/
def dwNew (c : Dev nD) : FVec Ideal S3712x1280 .f32 := fun j =>
  (show FVec Ideal S3712x1280 .f32 from m ((c : Thread nD τ).loc main_arg3)) j
    + (∑ k : Fin 9216, xRows m c (ix2 k (j 0)) * code (dyRows m c (ix2 k (j 1))) (Ideal.exp2 (0 - E m c)))
      * (xScale m c (ix2 0 0) * Ideal.exp2 (E m c))
/-- The gradient's codes. -/
def dyCodes (c : Dev nD) : FVec Ideal S3x3072x1280 .fp8e5m2 :=
  shapeCast S3x3072x1280 (codesRows m c) shapeCasts_S9216x1280_S3x3072x1280
/-- The gradient's scale. -/
def dyScale (c : Dev nD) : FVec Ideal S_ .f32 :=
  shapeCast S_ (show FVec Ideal S1x1 .f32 from fun _ => Ideal.exp2 (E m c)) shapeCasts_S1x1_S_

/-! ## What the body reads -/

/-- The body finds the activation rows. -/
theorem V_main_v0 (c : Dev nD) : V m c main_v0 = xRows m c := by
  show StableHlo.after hostOps0 _ (Proc.devRef .tc main_v0) = _
  entry_read
  rfl
/-- The body finds the activation scale. -/
theorem V_main_v1 (c : Dev nD) : V m c main_v1 = xScale m c := by
  show StableHlo.after hostOps0 _ (Proc.devRef .tc main_v1) = _
  entry_read
  rfl
/-- The body finds the gradient rows. -/
theorem V_main_v2 (c : Dev nD) : V m c main_v2 = dyRows m c := by
  show StableHlo.after hostOps0 _ (Proc.devRef .tc main_v2) = _
  entry_read
  rfl

/-- The one grid point's block indices. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

/-! Each input's one block is its whole array. -/

/-- The activation rows' block. -/
theorem iblk0 (c : Dev nD) (t : Fin cfg0.N) : @Eq (FVec Ideal S9216x3712 .fp8e4m3) (iblk m c 0 t) (xRows m c) := by
  rw [← V_main_v0]
  funext j
  blk_point [iblk, idx t]
/-- The activation scale's block. -/
theorem iblk1 (c : Dev nD) (t : Fin cfg0.N) : @Eq (FVec Ideal S1x1 .f32) (iblk m c 1 t) (xScale m c) := by
  rw [← V_main_v1]
  funext j
  blk_point [iblk, idx t]
/-- The gradient rows' block. -/
theorem iblk2 (c : Dev nD) (t : Fin cfg0.N) : @Eq (FVec Ideal S9216x1280 .bf16) (iblk m c 2 t) (dyRows m c) := by
  rw [← V_main_v2]
  funext j
  blk_point [iblk, idx t]
/-- The accumulator's block. -/
theorem iblk3 (c : Dev nD) (t : Fin cfg0.N) :
    @Eq (FVec Ideal S3712x1280 .f32) (iblk m c 3 t) (m ((c : Thread nD τ).loc main_arg3)) := by
  rw [← V_main_arg3 m c]
  funext j
  blk_point [iblk, idx t]

/-! ## The body on the whole arrays -/

/-- The scale is computed from the gradient alone. -/
theorem pay7_eq (x0 : FVec Ideal S9216x3712 .fp8e4m3) (x1 : FVec Ideal S1x1 .f32) (x2 : FVec Ideal S9216x1280 .bf16)
    (x3 : FVec Ideal S3712x1280 .f32) : k0_pay7 (F := Ideal) x0 x1 x2 x3 = k0_pay4 x2 := by
  have hz : (![0, 0] : Fin S9216x1280.rank → ℕ) = fun _ => 0 := by funext a; fin_cases a <;> rfl
  unfold k0_pay7
  rw [View.ld_unit_zero (S := S9216x1280) hz]

/-- The body stores the weight gradient. -/
theorem body4 (c : Dev nD) (x0 : FVec Ideal S9216x3712 .fp8e4m3) (x1 : FVec Ideal S1x1 .f32) (x2 : FVec Ideal S9216x1280 .bf16)
    (x3 : FVec Ideal S3712x1280 .f32) (h0 : x0 = xRows m c) (h1 : x1 = xScale m c) (h2 : x2 = dyRows m c)
    (h3 : x3 = m ((c : Thread nD τ).loc main_arg3)) (j : S3712x1280.Idx) :
    k0_pay1 (F := Ideal) (k0_pay7 x0 x1 x2 x3) (k0_pay6 x2 x0) x3 x1 j = dwNew m c j := by
  subst h0 h1 h2 h3
  refine (pay1_at _ _ _ _ j).trans (Ideal.add_congr rfl (Ideal.mul_congr (pay6_at _ _ j) (Ideal.mul_congr rfl ?_)))
  exact (congrFun (pay7_eq _ _ _ _) _).trans (pay4_at _ _)

/-- The body stores the codes. -/
theorem body5 (c : Dev nD) (x2 : FVec Ideal S9216x1280 .bf16) (h2 : x2 = dyRows m c) (j : S9216x1280.Idx) :
    k0_pay5 (F := Ideal) x2 j = codesRows m c j := by
  subst h2
  exact pay5_at _ j

/-- The body stores the scale. -/
theorem body6 (c : Dev nD) (x0 : FVec Ideal S9216x3712 .fp8e4m3) (x1 : FVec Ideal S1x1 .f32) (x2 : FVec Ideal S9216x1280 .bf16)
    (x3 : FVec Ideal S3712x1280 .f32) (h2 : x2 = dyRows m c) (j : S1x1.Idx) :
    k0_pay7 (F := Ideal) x0 x1 x2 x3 j = Ideal.exp2 (E m c) := by
  subst h2
  exact (congrFun (pay7_eq _ _ _ _) _).trans (pay4_at _ j)

/-! ## The arrays after the body -/

/-- The weight gradient array after the body. -/
theorem final4 (c : Dev nD) : (dats m 0 c).arrAt 4 cfg0.N = dwNew m c := by
  refine (dats m 0 c).arrAt_eq_of_covers 4 _ (by decide +kernel) fun t hf y => ?_
  blk_simp
  rw [after0_4]
  frame_out
  refine (body4 m c _ _ _ _ (iblk0 m c t) (iblk1 m c t) (iblk2 m c t) (iblk3 m c t) y).trans ?_
  blk_point [idx t]

/-- The codes array after the body. -/
theorem final5 (c : Dev nD) : (dats m 0 c).arrAt 5 cfg0.N = codesRows m c := by
  refine (dats m 0 c).arrAt_eq_of_covers 5 _ (by decide +kernel) fun t hf y => ?_
  blk_simp
  rw [after0_5]
  frame_out
  refine (body5 m c _ (iblk2 m c t) y).trans ?_
  blk_point [idx t]

/-- The scale array after the body. -/
theorem final6 (c : Dev nD) : (dats m 0 c).arrAt 6 cfg0.N = fun _ => Ideal.exp2 (E m c) := by
  refine (dats m 0 c).arrAt_eq_of_covers 6 _ (by decide +kernel) fun t hf y => ?_
  blk_simp
  rw [after0_6]
  frame_out
  exact body6 m c _ _ _ _ (iblk2 m c t) y

/-! ## The results -/

/-- The codes after the final reshape. -/
theorem after_main_v4 (c : Dev nD) : Pipeline.afterTail₀ cfgs (dats m) 0 (V0 m) [hostOps1] c main_v4 = dyCodes m c := by
  unfold Pipeline.afterTail₀
  show StableHlo.after hostOps1 _ (Proc.devRef .tc main_v4) = _
  entry_read
  exact congrArg (fun v : FVec Ideal S9216x1280 .fp8e5m2 => shapeCast S3x3072x1280 v shapeCasts_S9216x1280_S3x3072x1280)
    ((Pipeline.withArrays_arr spec0 launch0.win.arr_inj c (V0 m c) (fun w => (dats m 0 c).arrAt w cfg0.N) 5).trans (final5 m c))

/-- The scale after the final reshape. -/
theorem after_main_v5 (c : Dev nD) : Pipeline.afterTail₀ cfgs (dats m) 0 (V0 m) [hostOps1] c main_v5 = dyScale m c := by
  unfold Pipeline.afterTail₀
  show StableHlo.after hostOps1 _ (Proc.devRef .tc main_v5) = _
  entry_read
  exact congrArg (fun v : FVec Ideal S1x1 .f32 => shapeCast S_ v shapeCasts_S1x1_S_)
    ((Pipeline.withArrays_arr spec0 launch0.win.arr_inj c (V0 m c) (fun w => (dats m 0 c).arrAt w cfg0.N) 6).trans (final6 m c))

/-- THE REFERENCE'S VALUE: every run ends with the three results at `dwNew`, `dyCodes` and `dyScale`, the arguments unchanged. -/
theorem value : θ_run defs (onTc (τ := τ) (main (F := Ideal))) ⟨m, fun _ => 0, ρ⟩ (fun r => ∀ c : Dev nD,
      r.2.mem ((c.tc : Thread nD τ).loc main_v3_0) = dwNew m c
      ∧ r.2.mem ((c.tc : Thread nD τ).loc main_v4) = dyCodes m c
      ∧ r.2.mem ((c.tc : Thread nD τ).loc main_v5) = dyScale m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (run_main m ρ)
  exact ⟨((h c).1 4).trans (final4 m c),
    ((h c).2 main_v4 (Pipeline.mem_restRefs_of main_v4 (by decide) (by decide))).trans (after_main_v4 m c),
    ((h c).2 main_v5 (Pipeline.mem_restRefs_of main_v5 (by decide) (by decide))).trans (after_main_v5 m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).1 3).trans (((dats m 0 c).arrAt_in 3 rfl _).trans ((A_eq m c 3).trans (V_main_arg3 m c)))⟩

end Cert.RefIdeal.Value

end
-- ==== Proof.Range.lean ====
module

public import proofs.«01_k».proof.Pre_in_bf16_range
public import proofs.«01_k».proof.Proof.Gen.Pre_in_bf16_range
public import proofs.«01_k».proof.Proof.Spec
public import Idealize.ShloMosaic.Lib.Pointwise

@[expose] public section

set_option maxRecDepth 16384

noncomputable section

/-! # What the precondition gives: the scaled largest magnitude lies in the range in which both scales agree -/

namespace Cert.Range

open Idealize.ShloMosaic Cert.Exponent Cert.Spec Cert.Pre_in_bf16_range

/-- The largest finite bfloat16 number, as a binary32 number. -/
def largest : EReal := Ideal.ofBits .f32 0x7F7F0000#32

/-- Its value. -/
theorem largest_eq : largest = ((255 * (2 : ℝ) ^ (120 : ℤ) : ℝ) : EReal) := by
  simp [largest, Ideal.ofBits, Ideal.ieee, -EReal.coe_mul]
  norm_num

/-- The binary32 infinity is the top element. -/
theorem inf_f32 : Ideal.ofBits .f32 0x7F800000#32 = ⊤ := by simp [Ideal.ofBits, Ideal.ieee]

/-- A disjunction of two comparisons that is 1 holds. -/
theorem or_one (p q : Prop) [Decidable p] [Decidable q]
    (h : IntOp.ori (BitVec.ofBool (decide p)) (BitVec.ofBool (decide q)) = 1#1) : p ∨ q := by
  by_cases hp : p <;> by_cases hq : q <;> simp_all [IntOp.ori]

/-- The precondition, entry by entry. -/
theorem entry {x : FVec Ideal S3x3072x3712 .fp8e4m3} {s : FVec Ideal S_ .f32} {dy : FVec Ideal S3x3072x1280 .bf16} {a : FVec Ideal S3712x1280 .f32}
    (h : letI := Cert.Pre_in_bf16_range.Gen.facts; Cert.Pre_in_bf16_range.fn (F := Ideal) x s dy a = fun _ => 1#1) (i : S3x3072x1280.Idx) :
    max (dy i) (-(dy i)) ≤ largest ∨ max (dy i) (-(dy i)) = ⊤ := by
  have e := congrFun h i
  rw [← inf_f32]
  refine or_one _ _ (Eq.trans ?_ e)
  pointwise [fn]
  rfl

/-- A largest magnitude of entries each at most `largest` or infinite, scaled, is below 2^126 or infinite. -/
theorem scaled_range {ι : Type*} (v : ι → EReal) (h : ∀ i, max (v i) (-(v i)) ≤ largest ∨ max (v i) (-(v i)) = ⊤) :
    amax v * over57344 < pw 253 ∨ amax v * over57344 = ⊤ := by
  by_cases ht : ∃ i, max (v i) (-(v i)) = ⊤
  · right
    obtain ⟨i, hi⟩ := ht
    have hA : amax v = ⊤ := top_le_iff.mp (hi ▸ amax_le.mp le_rfl i)
    rw [hA, over57344_eq, EReal.top_mul_coe_of_pos (by positivity)]
  · left
    have hA : amax v ≤ largest := amax_le.mpr fun i => (h i).resolve_right fun e => ht ⟨i, e⟩
    have hc : (0 : EReal) ≤ over57344 := by rw [over57344_eq]; exact EReal.coe_nonneg.mpr (by positivity)
    refine (mul_le_mul_of_nonneg_right hA hc).trans_lt ?_
    rw [largest_eq, over57344_eq, pw_coe 253 (by norm_num) (by norm_num), ← EReal.coe_mul]
    refine EReal.coe_lt_coe_iff.mpr ?_
    norm_num

/-- A zero largest magnitude scales to zero. -/
theorem scaled_zero {ι : Type*} {v : ι → EReal} (h : amax v = 0) : amax v * over57344 = 0 := by rw [h, zero_mul]

end Cert.Range

end
-- ==== Proof.lean ====
module

public import proofs.«01_k».proof.Defs
public import proofs.«01_k».proof.Proof.Gen.Kernel
public import proofs.«01_k».proof.Proof.Gen.KernelIdeal
public import proofs.«01_k».proof.Proof.Gen.RefIdeal
public import proofs.«01_k».proof.Proof.Gen.Pre_in_bf16_range
public import proofs.«01_k».proof.Proof.KernelRun.Whole
public import proofs.«01_k».proof.Proof.KernelIdealValue.Whole
public import proofs.«01_k».proof.Proof.RefIdealValue.Whole
public import proofs.«01_k».proof.Proof.Range
public import Idealize.ShloMosaic.Adequacy
public import Idealize.ShloMosaic.Init

@[expose] public section

set_option maxRecDepth 16384

noncomputable section

namespace Cert.Proof

open Idealize.ShloMosaic Idealize.ShloMosaic.TcCoe Idealize.SL.Sem Cert.Exponent Cert.Spec

section

variable {m : (ℓ : Loc Cert.KernelIdeal.nD Cert.KernelIdeal.τ Cert.KernelIdeal.sig) → Buf (Elt Ideal) ℓ}
  {m' : (ℓ : Loc Cert.RefIdeal.nD Cert.RefIdeal.τ Cert.RefIdeal.sig) → Buf (Elt Ideal) ℓ}

/-- Under the precondition the kernel's two scales are the powers of two of the exponent as the reference finds it. -/
theorem scales (hpre : Pre_KernelIdeal_in_bf16_range (hPre_in_bf16_range := Cert.Pre_in_bf16_range.Gen.facts) m) (c : Dev Cert.KernelIdeal.nD) :
    Cert.KernelIdeal.Value0.scaleOf (Cert.KernelIdeal.Value.A m c) = Ideal.exp2 (rexp (Cert.KernelIdeal.Value.A m c * over57344))
    ∧ Cert.KernelIdeal.Value0.invOf (Cert.KernelIdeal.Value.A m c) = Ideal.exp2 (0 - rexp (Cert.KernelIdeal.Value.A m c * over57344)) := by
  have : Nonempty Cert.KernelIdeal.S9216x1280.Idx := ⟨ix2 0 0⟩
  exact kernel_eq_ref (scaled_nonneg (amax_nonneg (Cert.KernelIdeal.Value.dyRows m c)))
    (Cert.Range.scaled_range _ fun i => Cert.Range.entry (hpre c) _) Cert.Range.scaled_zero

end

/-- From agreeing arguments in the stated range the kernel and the reference end with the same three results. -/
theorem algebraic : algebraic_KernelIdeal_RefIdeal_pre_in_bf16_range (hKernelIdeal := Cert.KernelIdeal.Gen.facts)
    (hRefIdeal := Cert.RefIdeal.Gen.facts) (hPre_in_bf16_range := Cert.Pre_in_bf16_range.Gen.facts) := by
  intro m ρ m' ρ' hpre hag
  refine ⟨fun c => Cert.KernelIdeal.Value.dwNew m c, fun c => Cert.KernelIdeal.Value.dyCodes m c, fun c => Cert.KernelIdeal.Value.dyScale m c,
    Cert.KernelIdeal.Value.value m ρ, ?_⟩
  refine (θ_run _ _ _).mono (fun r h c => ?_) (Cert.RefIdeal.Value.value m' ρ')
  obtain ⟨h0, h1, h2, h3⟩ := hag c
  have hx : Cert.RefIdeal.Value.xRows m' c = Cert.KernelIdeal.Value.xRows m c := by
    unfold Cert.RefIdeal.Value.xRows; rw [h0]; rfl
  have hs : Cert.RefIdeal.Value.xScale m' c = Cert.KernelIdeal.Value.xScale m c := by
    unfold Cert.RefIdeal.Value.xScale; rw [h1]; rfl
  have hd : Cert.RefIdeal.Value.dyRows m' c = Cert.KernelIdeal.Value.dyRows m c := by
    unfold Cert.RefIdeal.Value.dyRows; rw [h2]; rfl
  have hE : Cert.RefIdeal.Value.E m' c = rexp (Cert.KernelIdeal.Value.A m c * over57344) := by
    unfold Cert.RefIdeal.Value.E; rw [hd]; rfl
  obtain ⟨e1, e2⟩ := scales hpre c
  refine ⟨(h c).1.trans ?_, (h c).2.1.trans ?_, (h c).2.2.1.trans ?_, (h c).2.2.2⟩
  · beta_reduce
    unfold Cert.RefIdeal.Value.dwNew Cert.KernelIdeal.Value.dwNew
    rw [hx, hs, hd, hE, h3, e1, e2]
    rfl
  · beta_reduce
    unfold Cert.RefIdeal.Value.dyCodes Cert.KernelIdeal.Value.dyCodes Cert.RefIdeal.Value.codesRows
    rw [hd, hE, e2]
    rfl
  · beta_reduce
    unfold Cert.RefIdeal.Value.dyScale Cert.KernelIdeal.Value.dyScale
    rw [hE, e1]

/-- Every claim of `Cert.Claim`: the frames, the idealization and the equality of the results. -/
theorem claim : Cert.Claim := ⟨Cert.Kernel.Gen.facts, Cert.KernelIdeal.Gen.facts, Cert.RefIdeal.Gen.facts, Cert.Pre_in_bf16_range.Gen.facts,
  fun m ρ _ => Cert.Kernel.Run.frame m ρ, fun m ρ _ => Cert.KernelIdeal.Run.frame m ρ, fun m ρ _ => Cert.KernelIdeal.Run.frame m ρ,
  fun m ρ _ => Cert.RefIdeal.Gen.frame m ρ, fun m ρ _ => Cert.RefIdeal.Gen.frame m ρ, trivial, algebraic⟩

end Cert.Proof

end
